-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "masked" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![2, 256, 512]⟩ ⟨3, ![32, 256, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn {F : FTy → Type} [FloatOps F] (main_arg0 : FVec F S2x256x512 .bf16) (main_arg1 : FVec F S512x256 .bf16) (main_arg2 : FVec F S32x256x64x64 .bf16) (main_arg3 : FVec F S32x256x64x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S32x256x64x64 .bf16 := Host.absf main_arg2
  let main_cst_2 : FVec F S_ .bf16 := constant S_ .bf16 0x7F80#16
  let main_v10 : FVec F S32x256x64x64 .bf16 := broadcastInDim S32x256x64x64 ![] bcast_S_S32x256x64x64 main_cst_2
  let main_v11 : IVec S32x256x64x64 1 := cmpf .olt main_v9 main_v10
  let main_c_3 : IVec S_ 1 := constantI S_ 1 1#1
  let main_v12 : IVec S_ 1 := (fun x v => Host.reduce IntOp.andi x v reducesTo_S32x256x64x64_S_d0_1_2_3 h_S_) main_v11 main_c_3
  let main_v13 : IVec S_ 1 := andi main_v8 main_v12
  main_v13
-- ==== Pre_finite_ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn {F : FTy → Type} [FloatOps F] (main_arg0 : FVec F S32x256x512 .bf16) (main_arg1 : FVec F S512x4096 .bf16) (main_arg2 : FVec F S32x256x64x64 .bf16) (main_arg3 : FVec F S32x256x64x64 .bf16) (main_arg4 : FVec F S4096x512 .bf16) : IVec S_ 1 :=
  let main_v0 : FVec F S32x256x512 .bf16 := Host.absf main_arg0
  let main_cst : FVec F S_ .bf16 := constant S_ .bf16 0x7F80#16
  let main_v1 : FVec F S32x256x512 .bf16 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S512x4096 .bf16 := Host.absf main_arg1
  let main_cst_0 : FVec F S_ .bf16 := constant S_ .bf16 0x7F80#16
  let main_v5 : FVec F S512x4096 .bf16 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S32x256x64x64 .bf16 := Host.absf main_arg2
  let main_cst_2 : FVec F S_ .bf16 := constant S_ .bf16 0x7F80#16
  let main_v10 : FVec F S32x256x64x64 .bf16 := broadcastInDim S32x256x64x64 ![] bcast_S_S32x256x64x64 main_cst_2
  let main_v11 : IVec S32x256x64x64 1 := cmpf .olt main_v9 main_v10
  let main_c_3 : IVec S_ 1 := constantI S_ 1 1#1
  let main_v12 : IVec S_ 1 := (fun x v => Host.reduce IntOp.andi x v reducesTo_S32x256x64x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩
abbrev S512x512 : Shape := ⟨2, ![512, 512]⟩
abbrev S2x256x64x64 : Shape := ⟨4, ![2, 256, 64, 64]⟩
abbrev S2x64x256x64 : Shape := ⟨4, ![2, 64, 256, 64]⟩
abbrev S128x256x64 : Shape := ⟨3, ![128, 256, 64]⟩
abbrev S9x512x256 : Shape := ⟨3, ![9, 512, 256]⟩
abbrev S9x256x512 : Shape := ⟨3, ![9, 256, 512]⟩
abbrev S8x512x256 : Shape := ⟨3, ![8, 512, 256]⟩
abbrev S8x256x512 : Shape := ⟨3, ![8, 256, 512]⟩
abbrev S256x256 : Shape := ⟨2, ![256, 256]⟩
abbrev S9 : Shape := ⟨1, ![9]⟩
abbrev S8 : Shape := ⟨1, ![8]⟩
abbrev S1 : Shape := ⟨1, ![1]⟩
abbrev S1x512x256 : Shape := ⟨3, ![1, 512, 256]⟩
abbrev S1x256x512 : Shape := ⟨3, ![1, 256, 512]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩

abbrev nBuf : Space → Nat
  | .hbm => 40
  | .vmem => 13
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S32x256x64x64, .bf16⟩
  | .hbm, ⟨3, _⟩ => ⟨S32x256x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S512x512, .bf16⟩
  | .hbm, ⟨14, _⟩ => ⟨S_, .bf16⟩
  | .hbm, ⟨15, _⟩ => ⟨S512x512, .bf16⟩
  | .hbm, ⟨16, _⟩ => ⟨S512x512, .bf16⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2x256x64x64, .bf16⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x256x64x64, .bf16⟩
  | .hbm, ⟨35, _⟩ => ⟨S2x64x256x64, .bf16⟩
  | .hbm, ⟨36, _⟩ => ⟨S128x256x64, .bf16⟩
  | .hbm, ⟨37, _⟩ => ⟨S2x64x256x64, .bf16⟩
  | .hbm, ⟨38, _⟩ => ⟨S128x256x64, .bf16⟩
  | .hbm, ⟨39, _⟩ => ⟨S2x256x512, .f32⟩
  | .local _ .vmem, ⟨0, _⟩ => ⟨S512x512, .bf16⟩
  | .local _ .vmem, ⟨1, _⟩ => ⟨S512x256, .bf16⟩
  | .local _ .vmem, ⟨2, _⟩ => ⟨S256x512, .bf16⟩
  | .local _ .vmem, ⟨3, _⟩ => ⟨S128x256x64, .bf16⟩
  | .local _ .vmem, ⟨4, _⟩ => ⟨S128x256x64, .bf16⟩
  | .local _ .vmem, ⟨5, _⟩ => ⟨S2x256x512, .f32⟩
  | .local _ .vmem, ⟨6, _⟩ => ⟨S9x512x256, .bf16⟩
  | .local _ .vmem, ⟨7, _⟩ => ⟨S9x256x512, .bf16⟩
  | .local _ .vmem, ⟨8, _⟩ => ⟨S8x512x256, .bf16⟩
  | .local _ .vmem, ⟨9, _⟩ => ⟨S8x256x512, .bf16⟩
  | .local _ .vmem, ⟨10, _⟩ => ⟨S512x256, .f32⟩
  | .local _ .vmem, ⟨11, _⟩ => ⟨S512x512, .f32⟩
  | .local _ .vmem, ⟨12, _⟩ => ⟨S256x256, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_c_5 : Ref sig .tc := ⟨.hbm, 23, rfl⟩
abbrev main_c_6 : Ref sig .tc := ⟨.hbm, 24, rfl⟩
abbrev main_v12 : Ref sig .tc := ⟨.hbm, 25, rfl⟩
abbrev main_c_7 : Ref sig .tc := ⟨.hbm, 26, rfl⟩
abbrev main_v13 : Ref sig .tc := ⟨.hbm, 27, rfl⟩
abbrev main_c_8 : Ref sig .tc := ⟨.hbm, 28, rfl⟩
abbrev main_v14 : Ref sig .tc := ⟨.hbm, 29, rfl⟩
abbrev main_v15 : Ref sig .tc := ⟨.hbm, 30, rfl⟩
abbrev main_c_9 : Ref sig .tc := ⟨.hbm, 31, rfl⟩
abbrev main_c_10 : Ref sig .tc := ⟨.hbm, 32, rfl⟩
abbrev main_c_11 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_16 : BitVec 32 := 1#32
  let v31 : BitVec 32 := Scalar.muli v7 c1_i32_16
  let v32 : BitVec 32 := Scalar.addi c0_i32_17 v31
  v32.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_23 : BitVec 32 := 1#32
  let v39 : BitVec 32 := Scalar.muli v7 c1_i32_23
  let v40 : BitVec 32 := Scalar.addi c0_i32_24 v39
  v40.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_30 : BitVec 32 := 1#32
  let v47 : BitVec 32 := Scalar.muli v5 c1_i32_30
  let v48 : BitVec 32 := Scalar.addi c0_i32_31 v47
  v48.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_37 : BitVec 32 := 1#32
  let v55 : BitVec 32 := Scalar.muli v5 c1_i32_37
  let v56 : BitVec 32 := Scalar.addi c0_i32_38 v55
  v56.toNat
def k0_off1 (d0 : Dev nD) (c0_i32_48 : BitVec 32) (c0_i32_49 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v72 : BitVec 32 := Scalar.muli v2 c4_i32
  let v73 : BitVec 32 := Scalar.addi c0_i32_48 v72
  let v74 : BitVec 32 := Scalar.addi v73 c0_i32_49
  let v75 : Index := Scalar.indexCast v74
  let c0_50 : Index := 0#32
  let c0_51 : Index := 0#32
  ![v75.toNat, 0, 0]
def k0_dev7 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_222 : BitVec 32 := 1#32
  let v333 : BitVec 32 := Scalar.muli v7 c1_i32_222
  let v334 : BitVec 32 := Scalar.addi c0_i32_223 v333
  v334.toNat
def k0_dev8 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_232 : BitVec 32 := 1#32
  let v343 : BitVec 32 := Scalar.muli v7 c1_i32_232
  let v344 : BitVec 32 := Scalar.addi c0_i32_233 v343
  v344.toNat
def k0_dev9 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_242 : BitVec 32 := 1#32
  let v353 : BitVec 32 := Scalar.muli v5 c1_i32_242
  let v354 : BitVec 32 := Scalar.addi c0_i32_243 v353
  v354.toNat
def k0_dev10 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_252 : BitVec 32 := 1#32
  let v363 : BitVec 32 := Scalar.muli v5 c1_i32_252
  let v364 : BitVec 32 := Scalar.addi c0_i32_253 v363
  v364.toNat
def k0_off2 (d0 : Dev nD) (c0_i32_270 : BitVec 32) (c1_i32_258 : BitVec 32) (c0_i32_271 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.subi v2 c1_i32_258
  let c16_i32_259 : BitVec 32 := 16#32
  let v374 : BitVec 32 := Scalar.addi v373 c16_i32_259
  let c16_i32_260 : BitVec 32 := 16#32
  let v375 : BitVec 32 := Scalar.remsi v374 c16_i32_260
  let c4_i32_269 : BitVec 32 := 4#32
  let v385 : BitVec 32 := Scalar.muli v375 c4_i32_269
  let v386 : BitVec 32 := Scalar.addi c0_i32_270 v385
  let v387 : BitVec 32 := Scalar.addi v386 c0_i32_271
  let v388 : Index := Scalar.indexCast v387
  let c0_272 : Index := 0#32
  let c0_273 : Index := 0#32
  ![v388.toNat, 0, 0]
def k0_off3 (d0 : Dev nD) (c0_i32_404 : BitVec 32) (c1_i32_392 : BitVec 32) (c0_i32_405 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v603 : BitVec 32 := Scalar.addi v2 c1_i32_392
  let c16_i32_393 : BitVec 32 := 16#32
  let v604 : BitVec 32 := Scalar.remsi v603 c16_i32_393
  let c4_i32_403 : BitVec 32 := 4#32
  let v614 : BitVec 32 := Scalar.muli v604 c4_i32_403
  let v615 : BitVec 32 := Scalar.addi c0_i32_404 v614
  let v616 : BitVec 32 := Scalar.addi v615 c0_i32_405
  let v617 : Index := Scalar.indexCast v616
  let c0_406 : Index := 0#32
  let c0_407 : Index := 0#32
  ![v617.toNat, 0, 0]
def k0_dev11 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_610 : BitVec 32 := 1#32
  let v894 : BitVec 32 := Scalar.muli v7 c1_i32_610
  let v895 : BitVec 32 := Scalar.addi c0_i32_611 v894
  v895.toNat
def k0_dev12 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_620 : BitVec 32 := 1#32
  let v904 : BitVec 32 := Scalar.muli v7 c1_i32_620
  let v905 : BitVec 32 := Scalar.addi c0_i32_621 v904
  v905.toNat
def k0_dev13 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_630 : BitVec 32 := 1#32
  let v914 : BitVec 32 := Scalar.muli v5 c1_i32_630
  let v915 : BitVec 32 := Scalar.addi c0_i32_631 v914
  v915.toNat
def k0_dev14 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_640 : BitVec 32 := 1#32
  let v924 : BitVec 32 := Scalar.muli v5 c1_i32_640
  let v925 : BitVec 32 := Scalar.addi c0_i32_641 v924
  v925.toNat
def k0_dev15 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_998 : BitVec 32 := 1#32
  let v1455 : BitVec 32 := Scalar.muli v7 c1_i32_998
  let v1456 : BitVec 32 := Scalar.addi c0_i32_999 v1455
  v1456.toNat
def k0_dev16 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1008 : BitVec 32 := 1#32
  let v1465 : BitVec 32 := Scalar.muli v7 c1_i32_1008
  let v1466 : BitVec 32 := Scalar.addi c0_i32_1009 v1465
  v1466.toNat
def k0_dev17 (d0 : Dev nD) : Nat :=
  let c0_i32_1019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1018 : BitVec 32 := 1#32
  let v1475 : BitVec 32 := Scalar.muli v5 c1_i32_1018
  let v1476 : BitVec 32 := Scalar.addi c0_i32_1019 v1475
  v1476.toNat
def k0_dev18 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1028 : BitVec 32 := 1#32
  let v1485 : BitVec 32 := Scalar.muli v5 c1_i32_1028
  let v1486 : BitVec 32 := Scalar.addi c0_i32_1029 v1485
  v1486.toNat
def k0_dev19 (d0 : Dev nD) : Nat :=
  let c0_i32_1386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1385 : BitVec 32 := 1#32
  let v2016 : BitVec 32 := Scalar.muli v7 c1_i32_1385
  let v2017 : BitVec 32 := Scalar.addi c0_i32_1386 v2016
  v2017.toNat
def k0_dev20 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1395 : BitVec 32 := 1#32
  let v2026 : BitVec 32 := Scalar.muli v7 c1_i32_1395
  let v2027 : BitVec 32 := Scalar.addi c0_i32_1396 v2026
  v2027.toNat
def k0_dev21 (d0 : Dev nD) : Nat :=
  let c0_i32_1406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1405 : BitVec 32 := 1#32
  let v2036 : BitVec 32 := Scalar.muli v5 c1_i32_1405
  let v2037 : BitVec 32 := Scalar.addi c0_i32_1406 v2036
  v2037.toNat
def k0_dev22 (d0 : Dev nD) : Nat :=
  let c0_i32_1416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1415 : BitVec 32 := 1#32
  let v2046 : BitVec 32 := Scalar.muli v5 c1_i32_1415
  let v2047 : BitVec 32 := Scalar.addi c0_i32_1416 v2046
  v2047.toNat
def k0_dev23 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1772 : BitVec 32 := 1#32
  let v2577 : BitVec 32 := Scalar.muli v7 c1_i32_1772
  let v2578 : BitVec 32 := Scalar.addi c0_i32_1773 v2577
  v2578.toNat
def k0_dev24 (d0 : Dev nD) : Nat :=
  let c0_i32_1783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1782 : BitVec 32 := 1#32
  let v2587 : BitVec 32 := Scalar.muli v7 c1_i32_1782
  let v2588 : BitVec 32 := Scalar.addi c0_i32_1783 v2587
  v2588.toNat
def k0_dev25 (d0 : Dev nD) : Nat :=
  let c0_i32_1793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1792 : BitVec 32 := 1#32
  let v2597 : BitVec 32 := Scalar.muli v5 c1_i32_1792
  let v2598 : BitVec 32 := Scalar.addi c0_i32_1793 v2597
  v2598.toNat
def k0_dev26 (d0 : Dev nD) : Nat :=
  let c0_i32_1803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1802 : BitVec 32 := 1#32
  let v2607 : BitVec 32 := Scalar.muli v5 c1_i32_1802
  let v2608 : BitVec 32 := Scalar.addi c0_i32_1803 v2607
  v2608.toNat
def k0_dev27 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2159 : BitVec 32 := 1#32
  let v3138 : BitVec 32 := Scalar.muli v7 c1_i32_2159
  let v3139 : BitVec 32 := Scalar.addi c0_i32_2160 v3138
  v3139.toNat
def k0_dev28 (d0 : Dev nD) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2169 : BitVec 32 := 1#32
  let v3148 : BitVec 32 := Scalar.muli v7 c1_i32_2169
  let v3149 : BitVec 32 := Scalar.addi c0_i32_2170 v3148
  v3149.toNat
def k0_dev29 (d0 : Dev nD) : Nat :=
  let c0_i32_2180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2179 : BitVec 32 := 1#32
  let v3158 : BitVec 32 := Scalar.muli v5 c1_i32_2179
  let v3159 : BitVec 32 := Scalar.addi c0_i32_2180 v3158
  v3159.toNat
def k0_dev30 (d0 : Dev nD) : Nat :=
  let c0_i32_2190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2189 : BitVec 32 := 1#32
  let v3168 : BitVec 32 := Scalar.muli v5 c1_i32_2189
  let v3169 : BitVec 32 := Scalar.addi c0_i32_2190 v3168
  v3169.toNat
def k0_dev31 (d0 : Dev nD) : Nat :=
  let c0_i32_2547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2546 : BitVec 32 := 1#32
  let v3699 : BitVec 32 := Scalar.muli v7 c1_i32_2546
  let v3700 : BitVec 32 := Scalar.addi c0_i32_2547 v3699
  v3700.toNat
def k0_dev32 (d0 : Dev nD) : Nat :=
  let c0_i32_2557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2556 : BitVec 32 := 1#32
  let v3709 : BitVec 32 := Scalar.muli v7 c1_i32_2556
  let v3710 : BitVec 32 := Scalar.addi c0_i32_2557 v3709
  v3710.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "masked" => some ⊥
  | _ => none
-- ==== ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S32x256x4096 : Shape := ⟨3, ![32, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S32x64x256x256 : Shape := ⟨4, ![32, 64, 256, 256]⟩
abbrev S1x1x256x256 : Shape := ⟨4, ![1, 1, 256, 256]⟩
abbrev S32x64x256 : Shape := ⟨3, ![32, 64, 256]⟩
abbrev S32x64x256x1 : Shape := ⟨4, ![32, 64, 256, 1]⟩
abbrev S1x1x256x1 : Shape := ⟨4, ![1, 1, 256, 1]⟩
abbrev S32x64x64x256 : Shape := ⟨4, ![32, 64, 64, 256]⟩

abbrev nBuf : Space → Nat
  | .hbm => 72
  | .vmem => 0
  | .smem => 0
  | _ => 0

abbrev bufTy : (tb : Table) → Fin (tcTables nBuf tb) → BufTy
  | .hbm, ⟨0, _⟩ => ⟨S32x256x512, .bf16⟩
  | .hbm, ⟨1, _⟩ => ⟨S512x4096, .bf16⟩
  | .hbm, ⟨2, _⟩ => ⟨S32x256x64x64, .bf16⟩
  | .hbm, ⟨3, _⟩ => ⟨S32x256x64x64, .bf16⟩
  | .hbm, ⟨4, _⟩ => ⟨S4096x512, .bf16⟩
  | .hbm, ⟨5, _⟩ => ⟨S32x256x4096, .f32⟩
  | .hbm, ⟨6, _⟩ => ⟨S32x256x4096, .bf16⟩
  | .hbm, ⟨7, _⟩ => ⟨S32x256x64x64, .bf16⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S1x256, .i32⟩
  | .hbm, ⟨21, _⟩ => ⟨S1x256, .i1⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .i1⟩
  | .hbm, ⟨29, _⟩ => ⟨S32x64x256x256, .f32⟩
  | .hbm, ⟨30, _⟩ => ⟨S32x64x256x256, .bf16⟩
  | .hbm, ⟨31, _⟩ => ⟨S32x64x256x256, .f32⟩
  | .hbm, ⟨32, _⟩ => ⟨S_, .f32⟩
  | .hbm, ⟨33, _⟩ => ⟨S32x64x256x256, .f32⟩
  | .hbm, ⟨34, _⟩ => ⟨S32x64x256x256, .f32⟩
  | .hbm, ⟨35, _⟩ => ⟨S1x1x256x256, .i1⟩
  | .hbm, ⟨36, _⟩ => ⟨S_, .f32⟩
  | .hbm, ⟨37, _⟩ => ⟨S_, .f32⟩
  | .hbm, ⟨38, _⟩ => ⟨S32x64x256x256, .i1⟩
  | .hbm, ⟨39, _⟩ => ⟨S32x64x256x256, .f32⟩
  | .hbm, ⟨40, _⟩ => ⟨S32x64x256x256, .f32⟩
  | .hbm, ⟨41, _⟩ => ⟨S_, .f32⟩
  | .hbm, ⟨42, _⟩ => ⟨S32x64x256, .f32⟩
  | .hbm, ⟨43, _⟩ => ⟨S32x64x256x1, .f32⟩
  | .hbm, ⟨44, _⟩ => ⟨S32x64x256x256, .f32⟩
  | .hbm, ⟨45, _⟩ => ⟨S32x64x256x256, .f32⟩
  | .hbm, ⟨46, _⟩ => ⟨S32x64x256x256, .f32⟩
  | .hbm, ⟨47, _⟩ => ⟨S_, .i1⟩
  | .hbm, ⟨48, _⟩ => ⟨S256, .i1⟩
  | .hbm, ⟨49, _⟩ => ⟨S1x1x256x1, .i1⟩
  | .hbm, ⟨50, _⟩ => ⟨S_, .f32⟩
  | .hbm, ⟨51, _⟩ => ⟨S32x64x256, .f32⟩
  | .hbm, ⟨52, _⟩ => ⟨S32x64x256x1, .f32⟩
  | .hbm, ⟨53, _⟩ => ⟨S_, .f32⟩
  | .hbm, ⟨54, _⟩ => ⟨S_, .f32⟩
  | .hbm, ⟨55, _⟩ => ⟨S32x64x256x1, .i1⟩
  | .hbm, ⟨56, _⟩ => ⟨S32x64x256x1, .f32⟩
  | .hbm, ⟨57, _⟩ => ⟨S32x64x256x1, .f32⟩
  | .hbm, ⟨58, _⟩ => ⟨S32x64x256x256, .f32⟩
  | .hbm, ⟨59, _⟩ => ⟨S32x64x256x256, .f32⟩
  | .hbm, ⟨60, _⟩ => ⟨S1x1x256x1, .i1⟩
  | .hbm, ⟨61, _⟩ => ⟨S_, .f32⟩
  | .hbm, ⟨62, _⟩ => ⟨S_, .f32⟩
  | .hbm, ⟨63, _⟩ => ⟨S32x64x256x256, .i1⟩
  | .hbm, ⟨64, _⟩ => ⟨S32x64x256x256, .f32⟩
  | .hbm, ⟨65, _⟩ => ⟨S32x64x256x256, .f32⟩
  | .hbm, ⟨66, _⟩ => ⟨S32x256x64x64, .f32⟩
  | .hbm, ⟨67, _⟩ => ⟨S32x64x64x256, .f32⟩
  | .hbm, ⟨68, _⟩ => ⟨S32x256x64x64, .f32⟩
  | .hbm, ⟨69, _⟩ => ⟨S32x256x4096, .f32⟩
  | .hbm, ⟨70, _⟩ => ⟨S4096x512, .f32⟩
  | .hbm, ⟨71, _⟩ => ⟨S32x256x512, .f32⟩
  | _, _ => ⟨S32x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Common.lean ====
/-
  The ring of sixteen devices that the kernel runs on, and the protocol of its remote copies.

  Every device sends its block of the query weights and its block of the output weights around the ring in both
  directions. There are four CHAINS: 0 and 1 go to the right neighbour (query, output), 2 and 3 to the left neighbour.
  Slot `s` of a chain's landing buffer is written once, by copy `s` of the neighbour the chain comes from, and read by
  copy `s + 1`. So each semaphore of the kernel sees one round of one duty. The barrier semaphore sees one round of two
  duties, one per neighbour; each neighbour hands over its landing slots with it.
-/
module

public import proofs.«01_k».proof.Proof.Gen.KernelIdeal
public import proofs.«01_k».proof.Proof.Gen.KernelIdeal.Skeleton
public import Idealize.ShloMosaic.Lib.Pipeline.Regions
public import Idealize.ShloMosaic.Lib.Pipeline.Kit
public import Idealize.ShloMosaic.Lib.Pipeline.TalkSites
public import Idealize.ShloMosaic.Lib.VecWindow
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

/-- The proof's own resource component: the pipeline's rounds and the ring's. -/
abbrev UU : Type := URounds (GSem nD τ sig) Unit × URounds (GSem nD τ sig) Bool

local notation "𝕄" => MT nD τ sig ℕ (Elt F) ℕ UU ℕ

/-- The ring's copy of the rounds algebra inside the machine's. -/
abbrev ER : Emb (URounds (GSem nD τ sig) Bool) (MT nD τ sig ℕ (Elt F) ℕ UU ℕ) := embR
/-- The pipeline's copy. -/
abbrev EP : Emb (URounds (GSem nD τ sig) Unit) (MT nD τ sig ℕ (Elt F) ℕ UU ℕ) := embL

/-- The proof names no loop variants. -/
abbrev 𝒱₀ : Variants := Variants.none

/-! ## The ring -/

set_option backward.proofsInPublic true in
/-- The device `k` places to the right, -/
def up (c : Dev nD) (k : ℕ) : Dev nD := ⟨(c.val + k) % 16, Nat.mod_lt _ (by decide)⟩
set_option backward.proofsInPublic true in
/-- and the one `k` places to the left (`k` at most 16). -/
def dn (c : Dev nD) (k : ℕ) : Dev nD := ⟨(c.val + (16 - k)) % 16, Nat.mod_lt _ (by decide)⟩

/-- The right neighbour -/
abbrev right (c : Dev nD) : Dev nD := up c 1
/-- and the left one. -/
abbrev left (c : Dev nD) : Dev nD := dn c 1

theorem left_right (c : Dev nD) : left (right c) = c := by revert c; decide
theorem right_left (c : Dev nD) : right (left c) = c := by revert c; decide
theorem right_ne_left (c : Dev nD) : right c ≠ left c := by revert c; decide
theorem right_ne (c : Dev nD) : right c ≠ c := by revert c; decide
theorem left_ne (c : Dev nD) : left c ≠ c := by revert c; decide
theorem up_zero (c : Dev nD) : up c 0 = c := by revert c; decide
theorem dn_zero (c : Dev nD) : dn c 0 = c := by revert c; decide

/-- The neighbour a chain sends to, -/
def peer (X : Fin 4) (c : Dev nD) : Dev nD := if X.val < 2 then right c else left c
/-- and the device whose block stands in slot `s` of the chain on device `c`. -/
def orig (X : Fin 4) (c : Dev nD) (s : ℕ) : Dev nD := if X.val < 2 then dn c s else up c s

theorem orig_peer (X : Fin 4) (c : Dev nD) : ∀ s : ℕ, s < 9 → orig X (peer X c) (s + 1) = orig X c s := by
  intro s hs
  have h : ∀ s : Fin 9, ∀ X : Fin 4, ∀ c : Dev nD, orig X (peer X c) (s.val + 1) = orig X c s.val := by decide
  exact h ⟨s, hs⟩ X c
theorem orig_zero (X : Fin 4) (c : Dev nD) : orig X c 0 = c := by revert X c; decide

/-! ## The semaphores -/

/-- The kernel's own semaphore `k` of its 68. -/
def dsem (k : ℕ) (h : k < 68) : SemLoc sig := .dma ⟨6 + k, Nat.add_lt_add_left h 6⟩

/-- The first of a chain's send semaphores among the 68, -/
def sB : Fin 4 → ℕ := fun | 0 => 0 | 1 => 18 | 2 => 36 | 3 => 52
/-- and the first of its receive semaphores. -/
def rB : Fin 4 → ℕ := fun | 0 => 9 | 1 => 27 | 2 => 44 | 3 => 60
/-- How many slots a chain has. -/
def cnt : Fin 4 → ℕ := fun | 0 => 9 | 1 => 9 | 2 => 8 | 3 => 8

theorem cnt_le (X : Fin 4) : cnt X ≤ 9 := by revert X; decide
theorem sB_lt {X : Fin 4} {s : ℕ} (h : s < cnt X) : sB X + s < 68 := by revert X; intro X; fin_cases X <;> (intro h; simp only [sB, cnt] at h ⊢; omega)
theorem rB_lt {X : Fin 4} {s : ℕ} (h : s < cnt X) : rB X + s < 68 := by revert X; intro X; fin_cases X <;> (intro h; simp only [rB, cnt] at h ⊢; omega)

/-- What semaphore `k` is for: sending or not, the chain, the copy's number. -/
def dec (k : ℕ) : Bool × Fin 4 × ℕ :=
  if k < 9 then (true, 0, k) else if k < 18 then (false, 0, k - 9)
  else if k < 27 then (true, 1, k - 18) else if k < 36 then (false, 1, k - 27)
  else if k < 44 then (true, 2, k - 36) else if k < 52 then (false, 2, k - 44)
  else if k < 60 then (true, 3, k - 52) else (false, 3, k - 60)

theorem dec_send {X : Fin 4} {s : ℕ} (h : s < cnt X) : dec (sB X + s) = (true, X, s) := by
  have H : ∀ X : Fin 4, ∀ s : Fin 9, s.val < cnt X → dec (sB X + s.val) = (true, X, s.val) := by decide
  exact H X ⟨s, lt_of_lt_of_le h (cnt_le X)⟩ h
theorem dec_recv {X : Fin 4} {s : ℕ} (h : s < cnt X) : dec (rB X + s) = (false, X, s) := by
  have H : ∀ X : Fin 4, ∀ s : Fin 9, s.val < cnt X → dec (rB X + s.val) = (false, X, s.val) := by decide
  exact H X ⟨s, lt_of_lt_of_le h (cnt_le X)⟩ h

/-- The send semaphore of copy `s` of chain `X`, -/
def sS (X : Fin 4) (s : ℕ) : SemLoc sig := if h : s < cnt X then dsem (sB X + s) (sB_lt h) else .dma ⟨0, by decide⟩
/-- and its receive semaphore. -/
def rS (X : Fin 4) (s : ℕ) : SemLoc sig := if h : s < cnt X then dsem (rB X + s) (rB_lt h) else .dma ⟨0, by decide⟩
/-- The barrier semaphore. -/
def bS : SemLoc sig := .reg (sig.barrier 0 rfl)

/-! ## The buffers -/

abbrev mWq : Memref sig .tc .vmem S512x256 .bf16 := Memref.whole cc0_stg1_0
abbrev mWo : Memref sig .tc .vmem S256x512 .bf16 := Memref.whole cc0_stg2_0

set_option backward.proofsInPublic true in
theorem i9q (s : ℕ) (h : s < 9) : ∀ a, (![s, 0, 0] : Fin 3 → Nat) a + S1x512x256.size a ≤ S9x512x256.size a := by
  intro a; fin_cases a <;> simp [Shape.size] <;> omega
theorem i9o (s : ℕ) (h : s < 9) : ∀ a, (![s, 0, 0] : Fin 3 → Nat) a + S1x256x512.size a ≤ S9x256x512.size a := by
  intro a; fin_cases a <;> simp [Shape.size] <;> omega
theorem i8q (s : ℕ) (h : s < 8) : ∀ a, (![s, 0, 0] : Fin 3 → Nat) a + S1x512x256.size a ≤ S8x512x256.size a := by
  intro a; fin_cases a <;> simp [Shape.size] <;> omega
theorem i8o (s : ℕ) (h : s < 8) : ∀ a, (![s, 0, 0] : Fin 3 → Nat) a + S1x256x512.size a ≤ S8x256x512.size a := by
  intro a; fin_cases a <;> simp [Shape.size] <;> omega

/-- Slot `s` of the landing buffer of chain 0, 1, 2, 3. -/
abbrev m0 (s : ℕ) (h : s < 9) : Memref sig .tc .vmem S512x256 .bf16 :=
  ((Memref.whole cc0_scratch0 : Memref sig .tc .vmem S9x512x256 .bf16).slice (Rect.unit (s := S9x512x256) ![s, 0, 0] S1x512x256.size (i9q s h)) (fun _ => rfl)).squeeze S512x256 squeezes_S1x512x256_S512x256
@[inherit_doc m0] abbrev m1 (s : ℕ) (h : s < 9) : Memref sig .tc .vmem S256x512 .bf16 :=
  ((Memref.whole cc0_scratch1 : Memref sig .tc .vmem S9x256x512 .bf16).slice (Rect.unit (s := S9x256x512) ![s, 0, 0] S1x256x512.size (i9o s h)) (fun _ => rfl)).squeeze S256x512 squeezes_S1x256x512_S256x512
@[inherit_doc m0] abbrev m2 (s : ℕ) (h : s < 8) : Memref sig .tc .vmem S512x256 .bf16 :=
  ((Memref.whole cc0_scratch2 : Memref sig .tc .vmem S8x512x256 .bf16).slice (Rect.unit (s := S8x512x256) ![s, 0, 0] S1x512x256.size (i8q s h)) (fun _ => rfl)).squeeze S512x256 squeezes_S1x512x256_S512x256
@[inherit_doc m0] abbrev m3 (s : ℕ) (h : s < 8) : Memref sig .tc .vmem S256x512 .bf16 :=
  ((Memref.whole cc0_scratch3 : Memref sig .tc .vmem S8x256x512 .bf16).slice (Rect.unit (s := S8x256x512) ![s, 0, 0] S1x256x512.size (i8o s h)) (fun _ => rfl)).squeeze S256x512 squeezes_S1x256x512_S256x512

/-- What one copy credits its semaphores. -/
abbrev N : ℕ := mWq.view.dmaCredit
theorem N_pos : 0 < N := View.dmaCredit_pos _ (by decide)
theorem N_wo : mWo.view.dmaCredit = N := rfl
theorem N_m0 (s : ℕ) (h : s < 9) : (m0 s h).view.dmaCredit = N := rfl
theorem N_m1 (s : ℕ) (h : s < 9) : (m1 s h).view.dmaCredit = N := rfl
theorem N_m2 (s : ℕ) (h : s < 8) : (m2 s h).view.dmaCredit = N := rfl
theorem N_m3 (s : ℕ) (h : s < 8) : (m3 s h).view.dmaCredit = N := rfl

/-! ## What the buffers hold -/

/-- A memref's elements on device `c` at share `q`, reading `x`. -/
def at_ {S : Shape} (m : Memref sig .tc .vmem S .bf16) (c : Dev nD) (q : PosShare TreeShare) (x : S.Idx → Elt F .bf16) : sProp 𝕄 :=
  m.view.loc (c : Thread nD τ) ↦[m.view.set]{q} m.view.rep x
/-- A memref's elements on device `c`, whatever they hold. -/
def any_ {S : Shape} (m : Memref sig .tc .vmem S .bf16) (c : Dev nD) : sProp 𝕄 :=
  iprop(∃ f, m.view.loc (c : Thread nD τ) ↦[m.view.set]{fullShare} f)

/-- Contents that read `x` may be taken to be the representative ones. -/
theorem at_of_read {S : Shape} (m : Memref sig .tc .vmem S .bf16) (c : Dev nD) (q : PosShare TreeShare) (x : S.Idx → Elt F .bf16)
    (g : Buf (Elt F) (m.view.loc (c : Thread nD τ))) (h : m.view.read (Elt F) g = x) :
    (m.view.loc (c : Thread nD τ) ↦[m.view.set]{q} g : sProp 𝕄) ⊢ at_ m c q x := by
  unfold at_
  exact pointsTo_rep_of_read (c : Thread nD τ) m g q x h

/-- The blocks of the query and of the output weights, device by device. -/
structure Blocks (F : FTy → Type) where
  wq : Dev nD → S512x256.Idx → Elt F .bf16
  wo : Dev nD → S256x512.Idx → Elt F .bf16

variable (B : Blocks F)

/-- Slot `s` of chain `X` on device `c`, holding device `p`'s block. -/
def slotAt (X : Fin 4) (c : Dev nD) (s : ℕ) (q : PosShare TreeShare) (p : Dev nD) : sProp 𝕄 :=
  match X with
  | 0 => if h : s < 9 then at_ (m0 s h) c q (B.wq p) else iprop(emp)
  | 1 => if h : s < 9 then at_ (m1 s h) c q (B.wo p) else iprop(emp)
  | 2 => if h : s < 8 then at_ (m2 s h) c q (B.wq p) else iprop(emp)
  | 3 => if h : s < 8 then at_ (m3 s h) c q (B.wo p) else iprop(emp)
/-- Slot `s` of chain `X` on device `c`, whatever it holds. -/
def slotAny (X : Fin 4) (c : Dev nD) (s : ℕ) : sProp 𝕄 :=
  match X with
  | 0 => if h : s < 9 then any_ (m0 s h) c else iprop(emp)
  | 1 => if h : s < 9 then any_ (m1 s h) c else iprop(emp)
  | 2 => if h : s < 8 then any_ (m2 s h) c else iprop(emp)
  | 3 => if h : s < 8 then any_ (m3 s h) c else iprop(emp)

/-- The share of a weight's staging buffer that chain `X`'s first copy reads. -/
def lend : Fin 4 → PosShare TreeShare := fun | 0 => fullShare.left | 1 => fullShare.left | 2 => fullShare.right.left | 3 => fullShare.right.left
/-- A weight's staging buffer at share `q`, holding device `p`'s block. -/
def stgAt (X : Fin 4) (c : Dev nD) (q : PosShare TreeShare) (p : Dev nD) : sProp 𝕄 :=
  match X with
  | 0 => at_ mWq c q (B.wq p)
  | 1 => at_ mWo c q (B.wo p)
  | 2 => at_ mWq c q (B.wq p)
  | 3 => at_ mWo c q (B.wo p)
/-- What copy `s` of chain `X` reads on device `c`: the staging buffer for the first, the slot before for the others. -/
def srcAt (X : Fin 4) (c : Dev nD) (s : ℕ) : sProp 𝕄 :=
  if s ≤ 1 then stgAt B X c (lend X) (orig X c (s - 1)) else slotAt B X c (s - 1) fullShare.left (orig X c (s - 1))

section Storable
variable {S : Shape} (m : Memref sig .tc .vmem S .bf16) (c : Dev nD)
instance at_storable (q : PosShare TreeShare) (x : S.Idx → Elt F .bf16) : BI.Storable (upEmb : UEmb _ 𝕄) (at_ m c q x) := by unfold at_; infer_instance
instance any_storable : BI.Storable (upEmb : UEmb _ 𝕄) (any_ (F := F) m c) := by unfold any_; infer_instance
instance slotAt_storable (X : Fin 4) (s : ℕ) (q : PosShare TreeShare) (p : Dev nD) : BI.Storable (upEmb : UEmb _ 𝕄) (slotAt B X c s q p) := by
  unfold slotAt; split <;> split <;> infer_instance
instance slotAny_storable (X : Fin 4) (s : ℕ) : BI.Storable (upEmb : UEmb _ 𝕄) (slotAny (F := F) X c s) := by
  unfold slotAny; split <;> split <;> infer_instance
instance srcAt_storable (X : Fin 4) (s : ℕ) : BI.Storable (upEmb : UEmb _ 𝕄) (srcAt B X c s) := by
  unfold srcAt stgAt; split
  · split <;> infer_instance
  · infer_instance
end Storable

/-! ## The schedule -/

/-- Landing slot `s` of chain `X` on device `c`, free to be written, with what its receive cell needs to be paid. -/
def land1 (X : Fin 4) (c : Dev nD) (s : ℕ) : sProp 𝕄 := iprop(slotAny X c s ∗ reached ER ((c : Thread nD τ), rS X s) 0)
/-- `n` landing slots of chain `X` from `s` on. -/
def land (X : Fin 4) (c : Dev nD) : ℕ → ℕ → sProp 𝕄
  | _, 0 => iprop(emp)
  | s, n + 1 => iprop(land1 X c s ∗ land X c (s + 1) n)

instance land1_storable (X : Fin 4) (c : Dev nD) (s : ℕ) : BI.Storable (upEmb : UEmb _ 𝕄) (land1 (F := F) X c s) := by unfold land1; infer_instance
instance land_storable (X : Fin 4) (c : Dev nD) : (s n : ℕ) → BI.Storable (upEmb : UEmb _ 𝕄) (land (F := F) X c s n)
  | _, 0 => by unfold land; infer_instance
  | s, n + 1 => by unfold land; have := land_storable X c (s + 1) n; infer_instance

/-- What a neighbour hands over with its barrier signal: the right one (`true`) its landing slots of chains 0 and 1, the
    left one those of chains 2 and 3. -/
def barP (c : Dev nD) (d : Bool) : sProp 𝕄 :=
  if d then iprop(land 0 (right c) 1 8 ∗ land 1 (right c) 1 8) else iprop(land 2 (left c) 1 7 ∗ land 3 (left c) 1 7)

instance barP_storable (c : Dev nD) (d : Bool) : BI.Storable (upEmb : UEmb _ 𝕄) (barP (F := F) c d) := by unfold barP; split <;> infer_instance

/-- The duties of a semaphore's one round. -/
def dutyOf : SemLoc sig → Finset Bool
  | .reg _ => {false, true}
  | .dma i => if 1 ≤ (dec (i.val - 6)).2.2 then {false} else ∅
/-- The units of each. -/
def unitOf : SemLoc sig → ℕ
  | .reg _ => 1
  | .dma _ => N
/-- What each hands over. -/
def payOf (c : Dev nD) (d : Bool) : SemLoc sig → sProp 𝕄
  | .reg _ => barP c d
  | .dma i => if (dec (i.val - 6)).1 then srcAt B (dec (i.val - 6)).2.1 c (dec (i.val - 6)).2.2
      else slotAt B (dec (i.val - 6)).2.1 c (dec (i.val - 6)).2.2 fullShare (orig (dec (i.val - 6)).2.1 c (dec (i.val - 6)).2.2)

/-- The ring's schedule. -/
def Rd : Schedule (GSem nD τ sig) Bool 𝕄 where
  duties g r := if r = 0 ∧ g.1.2 = .tc then dutyOf g.2 else ∅
  amount g _ _ := unitOf g.2
  payload g _ d := payOf B g.1.1 d g.2
  amount_pos g _ _ _ := by
    cases g.2 with
    | reg _ => exact Nat.one_pos
    | dma _ => exact N_pos

instance payOf_storable (c : Dev nD) (d : Bool) (s : SemLoc sig) : BI.Storable (upEmb : UEmb _ 𝕄) (payOf B c d s) := by
  unfold payOf; split
  · infer_instance
  · split <;> infer_instance
instance Rd_storable (g : GSem nD τ sig) (r : ℕ) (d : Bool) : BI.Storable (upEmb : UEmb _ 𝕄) ((Rd B).payload g r d) :=
  payOf_storable B g.1.1 d g.2

theorem Rd_later (g : GSem nD τ sig) (r : ℕ) (h : 1 ≤ r) : (Rd B).duties g r = ∅ := if_neg fun h' => by omega

theorem sS_eq {X : Fin 4} {s : ℕ} (h : s < cnt X) : sS X s = dsem (sB X + s) (sB_lt h) := dif_pos h
theorem rS_eq {X : Fin 4} {s : ℕ} (h : s < cnt X) : rS X s = dsem (rB X + s) (rB_lt h) := dif_pos h

theorem dec6 (k : ℕ) : dec (6 + k - 6) = dec k := by rw [Nat.add_sub_cancel_left]

variable (c : Dev nD)

theorem duties_send {X : Fin 4} {s : ℕ} (h : s < cnt X) (h1 : 1 ≤ s) : (Rd B).duties ((c : Thread nD τ), sS X s) 0 = {false} := by
  rw [sS_eq h]
  change (if 1 ≤ (dec (6 + (sB X + s) - 6)).2.2 then ({false} : Finset Bool) else ∅) = _
  rw [dec6, dec_send h, if_pos h1]
theorem duties_recv {X : Fin 4} {s : ℕ} (h : s < cnt X) (h1 : 1 ≤ s) : (Rd B).duties ((c : Thread nD τ), rS X s) 0 = {false} := by
  rw [rS_eq h]
  change (if 1 ≤ (dec (6 + (rB X + s) - 6)).2.2 then ({false} : Finset Bool) else ∅) = _
  rw [dec6, dec_recv h, if_pos h1]
theorem duties_bar : (Rd B).duties ((c : Thread nD τ), bS) 0 = {false, true} := rfl
theorem amount_send {X : Fin 4} {s : ℕ} (h : s < cnt X) (d : Bool) : (Rd B).amount ((c : Thread nD τ), sS X s) 0 d = N := by rw [sS_eq h]; rfl
theorem amount_recv {X : Fin 4} {s : ℕ} (h : s < cnt X) (d : Bool) : (Rd B).amount ((c : Thread nD τ), rS X s) 0 d = N := by rw [rS_eq h]; rfl
theorem amount_bar (d : Bool) : (Rd B).amount ((c : Thread nD τ), bS) 0 d = 1 := rfl
theorem payload_send {X : Fin 4} {s : ℕ} (h : s < cnt X) (d : Bool) : (Rd B).payload ((c : Thread nD τ), sS X s) 0 d = srcAt B X c s := by
  rw [sS_eq h]
  change (if (dec (6 + (sB X + s) - 6)).1 then srcAt B (dec (6 + (sB X + s) - 6)).2.1 c (dec (6 + (sB X + s) - 6)).2.2 else _) = _
  rw [dec6, dec_send h]; rfl
theorem payload_recv {X : Fin 4} {s : ℕ} (h : s < cnt X) (d : Bool) :
    (Rd B).payload ((c : Thread nD τ), rS X s) 0 d = slotAt B X c s fullShare (orig X c s) := by
  rw [rS_eq h]
  change (if (dec (6 + (rB X + s) - 6)).1 then _ else slotAt B (dec (6 + (rB X + s) - 6)).2.1 c (dec (6 + (rB X + s) - 6)).2.2 fullShare
    (orig (dec (6 + (rB X + s) - 6)).2.1 c (dec (6 + (rB X + s) - 6)).2.2)) = _
  rw [dec6, dec_recv h]; rfl
theorem payload_bar (d : Bool) : (Rd B).payload ((c : Thread nD τ), bS) 0 d = barP c d := rfl

theorem expect_send {X : Fin 4} {s : ℕ} (h : s < cnt X) (h1 : 1 ≤ s) : (Rd B).expect ((c : Thread nD τ), sS X s) 0 = N := by
  rw [Schedule.expect, Schedule.amountOf, duties_send B c h h1, Finset.sum_singleton, amount_send B c h]
theorem expect_recv {X : Fin 4} {s : ℕ} (h : s < cnt X) (h1 : 1 ≤ s) : (Rd B).expect ((c : Thread nD τ), rS X s) 0 = N := by
  rw [Schedule.expect, Schedule.amountOf, duties_recv B c h h1, Finset.sum_singleton, amount_recv B c h]
theorem expect_bar : (Rd B).expect ((c : Thread nD τ), bS) 0 = 2 := rfl

/-! ## The cells and tokens of the launch -/

/-- The kernel's own semaphores, as the launch indexes them. -/
abbrev osem : Fin 68 → SemLoc sig := fun k => dsem k.val k.isLt

/-- The copies of the four chains, in no particular order. -/
def copies : List (Fin 4 × ℕ) :=
  (List.range 8).flatMap fun s => [(0, s + 1), (1, s + 1)] ++ if s < 7 then [(2, s + 1), (3, s + 1)] else []

/-- The duties device `c` pays. -/
def tokL : List (GSem nD τ sig × ℕ × Bool) :=
  [((((left c : Dev nD) : Thread nD τ), bS), 0, true), ((((right c : Dev nD) : Thread nD τ), bS), 0, false)]
    ++ copies.map (fun x => (((c : Thread nD τ), sS x.1 x.2), 0, false)) ++ copies.map (fun x => ((((peer x.1 c : Dev nD) : Thread nD τ), rS x.1 x.2), 0, false))

/-! ## What a device owes -/

/-- The payments of one device, in the order it makes them: towards the right neighbour or not, the semaphore, the
    level, the units. -/
def shape : List (Bool × SemLoc sig × ℕ × ℕ) :=
  (false, bS, 1, 1) :: (true, bS, 1, 1) :: copies.map fun x => (decide (x.1.val < 2), rS x.1 x.2, 1 + x.2, N)
/-- The payment of an entry, by device `c`. -/
def payBy (y : Bool × SemLoc sig × ℕ × ℕ) : Pay nD τ sig := ((((if y.1 then right c else left c : Dev nD) : Thread nD τ), y.2.1), y.2.2.1, y.2.2.2)
/-- What device `c` owes when it has made `k` payments, -/
def OW (k : ℕ) : CellTallies nD τ sig ℕ := tallyL ((shape.drop k).map (payBy c))
/-- and that it owes just that. -/
def owesK (k : ℕ) : sProp 𝕄 := iprop(∃ W, owes (c : Thread nD τ) (OW c k) W)

theorem OW_step {k : ℕ} {y : Bool × SemLoc sig × ℕ × ℕ} (h : shape.drop k = y :: shape.drop (k + 1)) :
    OW c k = OW c (k + 1) + (payBy c y).tally := by
  rw [OW, OW, h, List.map_cons, tallyL, add_comm]

/-- A wait at level `i` may start when every payment left has a higher level. -/
theorem mayWait_OW (k i : ℕ) (hi : i < 10) (sm : SemLoc sig) (h : ∀ y ∈ shape.drop k, i < y.2.2.1 ∧ y.2.2.1 < 10) :
    (levAts (L 10) lv : sProp 𝕄) ⊢ MayWait (c : Thread nD τ) sm i (OW c k) :=
  SiteBlocks.mayWait_of hi c sm _ fun g j hj => by
    obtain ⟨x, hx, rfl, rfl⟩ := TalkSites.tallyL_pos hj
    obtain ⟨y, hy, rfl⟩ := List.mem_map.mp hx
    exact ⟨SiteBlocks.mem_L _ _ (h y hy).2, (h y hy).1⟩

end Cert.KernelIdeal.Ring
-- ==== Proof.Proto.lean ====
/-
  The steps of the ring's protocol, as rules for the kernel's communication operations: a signal to a neighbour, the
  barrier wait, a copy to a neighbour, and the waits for a copy's reading and for a copy's landing. Each rule takes what
  the operation needs in one bundle and gives back what it leaves. A wait also closes its cell, so that the counter's
  value zero comes back.
-/
module

public import proofs.«01_k».proof.Proof.Common

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

/-! ## The family of cells -/

/-- The device that pays a duty. -/
def payer (x : GSem nD τ sig × ℕ × Bool) : Dev nD :=
  match x.1.2 with
  | .reg _ => if x.2.2 then right x.1.1.1 else left x.1.1.1
  | .dma i => if (dec (i.val - 6)).1 then x.1.1.1 else if (dec (i.val - 6)).2.1.val < 2 then left x.1.1.1 else right x.1.1.1

theorem payer_tokL : ∀ c : Dev nD, ∀ x ∈ tokL c, payer x = c := by decide +kernel

theorem osem_inj : Function.Injective osem := fun a b h => by
  have : (⟨6 + a.val, Nat.add_lt_add_left a.isLt 6⟩ : DmaSem sig) = ⟨6 + b.val, Nat.add_lt_add_left b.isLt 6⟩ := SemLoc.dma.inj h
  exact Fin.ext (Nat.add_left_cancel (Fin.mk.inj this))

/-- The ring's cells: the barrier's, and the kernel's own semaphores, opened by the launch. -/
def fam : TalkSites.Fam nD τ sig Bool 1 where
  bar := bS
  dorm _ := Finset.univ.map ⟨osem, osem_inj⟩
  toks c _ := (tokL c).toFinset
  semKey _ := 0
  hsem _ _ _ := Subsingleton.elim _ _
  hbar _ h := by
    obtain ⟨k, -, e⟩ := Finset.mem_map.mp h
    exact absurd (show dsem k.val k.isLt = SemLoc.reg (sig.barrier 0 rfl) from e) (by unfold dsem; exact fun h => by cases h)
  tokKey x := (payer x, 0)
  htok c j x h := Prod.ext (payer_tokL c x (List.mem_toFinset.mp h)) (Subsingleton.elim _ _)

theorem mem_dorm {k : ℕ} (h : k < 68) : dsem k h ∈ fam.dorm 0 := Finset.mem_map.mpr ⟨⟨k, h⟩, Finset.mem_univ _, rfl⟩
theorem sS_dorm {X : Fin 4} {s : ℕ} (h : s < cnt X) : sS X s ∈ fam.dorm 0 := by rw [sS_eq h]; exact mem_dorm _
theorem rS_dorm {X : Fin 4} {s : ℕ} (h : s < cnt X) : rS X s ∈ fam.dorm 0 := by rw [rS_eq h]; exact mem_dorm _

variable (B : Blocks F) (κ : GSem nD τ sig → ℕ)

/-- What every rule may use any number of times: the cells' invariants and the levels. -/
def prot : sProp 𝕄 := iprop(fam.cellInvs ER (Rd B) κ ∗ levAts (L 10) lv)
instance prot_persistent : BI.Persistent (prot B κ) := by unfold prot; infer_instance

variable (c : Dev nD)

theorem prot_send {X : Fin 4} {s : ℕ} (h : s < cnt X) : prot B κ ⊢ cellInv ER (Rd B) (κ ((c : Thread nD τ), sS X s)) ((c : Thread nD τ), sS X s) := by
  unfold prot; iintro ⟨H, -⟩; iapply (fam.cellInvs_dorm ER (Rd B) κ c (sS_dorm h)); iexact H
theorem prot_recv {X : Fin 4} {s : ℕ} (h : s < cnt X) : prot B κ ⊢ cellInv ER (Rd B) (κ ((c : Thread nD τ), rS X s)) ((c : Thread nD τ), rS X s) := by
  unfold prot; iintro ⟨H, -⟩; iapply (fam.cellInvs_dorm ER (Rd B) κ c (rS_dorm h)); iexact H
theorem prot_bar : prot B κ ⊢ cellInv ER (Rd B) (κ ((c : Thread nD τ), bS)) ((c : Thread nD τ), bS) := by
  unfold prot; iintro ⟨H, -⟩; iapply (fam.cellInvs_bar ER (Rd B) κ c); iexact H

/-! ## The bundles -/

/-- What device `c` needs for copy `s` of chain `X`, beside the source and the landing slot: its own send duty, the peer's
    receive duty, its position on both of its cells, the credit of the copy that comes to it. -/
def kit1 (X : Fin 4) (s : ℕ) : sProp 𝕄 :=
  iprop(dutyTok ER ((c : Thread nD τ), sS X s) 0 false ∗ reached ER ((c : Thread nD τ), sS X s) 0
    ∗ dutyTok ER (((peer X c : Dev nD) : Thread nD τ), rS X s) 0 false
    ∗ atPos ER ((c : Thread nD τ), sS X s) 0 ∅ 0 ∗ atPos ER ((c : Thread nD τ), rS X s) 0 ∅ 0
    ∗ cred (tallyAt ((c : Thread nD τ), rS X s) (1 + s) N))
/-- `n` such bundles from copy `s` on. -/
def kit (X : Fin 4) : ℕ → ℕ → sProp 𝕄
  | _, 0 => iprop(emp)
  | s, n + 1 => iprop(kit1 c X s ∗ kit X (s + 1) n)
/-- What the wait for the reading of copy `s` needs, -/
def flS (X : Fin 4) (s : ℕ) : sProp 𝕄 := iprop(atPos ER ((c : Thread nD τ), sS X s) 0 ∅ 0 ∗ cred (tallyAt ((c : Thread nD τ), sS X s) 0 N))
/-- and what the wait for its landing here needs. -/
def flR (X : Fin 4) (s : ℕ) : sProp 𝕄 := iprop(atPos ER ((c : Thread nD τ), rS X s) 0 ∅ 0 ∗ cred (tallyAt ((c : Thread nD τ), rS X s) (1 + s) N))

/-! ## The rules -/

/-- Copy `s` of chain `X`, from `src` to `dst` at the peer. -/
theorem send {α : Type} {Q : α → sProp 𝕄} {k : PUnit → Prog (TpuEff nD τ sig (Elt F) Λ₀ .tc) α}
    (X : Fin 4) (s : ℕ) (h1 : 1 ≤ s) (h : s < cnt X) {S : Shape} (src dst : Memref sig .tc .vmem S .bf16) (q : PosShare TreeShare)
    (x : S.Idx → Elt F .bf16) (j : ℕ) (hj : shape.drop j = (decide (X.val < 2), rS X s, 1 + s, N) :: shape.drop (j + 1))
    (hx : srcAt B X c s = at_ src c q x) (hd : ∀ d : Dev nD, (slotAny X d s : sProp 𝕄) = any_ dst d)
    (hp : ∀ d : Dev nD, slotAt B X d s fullShare (orig X c (s - 1)) = at_ dst d fullShare x) (hN : dst.view.dmaCredit = N)
    (d : Dev nD) (hdv : d = peer X c) {sd rd : SemLoc sig} (hs : sd = sS X s) (hr : rd = rS X s)
    {hsc : (dst : Memref sig (Dev.tc d : Thread nD τ).2.kind .vmem S .bf16).view.ref.isScScratch = false}
    {hsrc : src.view.WordExact} {hdst : dst.view.WordExact}
    {hsem : DmaTarget.Typed .vmem rd (.remote (Dev.tc d : Thread nD τ) (dst : Memref sig (Dev.tc d : Thread nD τ).2.kind .vmem S .bf16) sd hsc)} :
    prot B κ ⊢ iprop(srcAt B X c s -∗ kit1 c X s -∗ land1 X (peer X c) s -∗ owesK c j
      -∗ ((flS c X s ∗ flR c X s ∗ owesK c (j + 1)) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.remote (Dev.tc d : Thread nD τ) dst sd hsc) rd hsrc hdst hsem) k) Q) := by
  subst hdv hs hr
  have hN' : dst.view.amount (rS X s) = N := by rw [rS_eq h]; exact hN
  iintro #HP Hs Hk Hl HO Hc
  ihave HO := (show owesK c j ⊢ (iprop(∃ W, owes (c : Thread nD τ) (OW c j) W) : sProp 𝕄) from .rfl) $$ HO
  icases HO with ⟨%W, HO⟩
  ihave Hs := (Entails.of_eq (hx.trans (by unfold at_; rfl) : srcAt B X c s = (src.view.loc (c : Thread nD τ) ↦[src.view.set]{q} src.view.rep x : sProp 𝕄))) $$ Hs
  ihave Hl := (Entails.of_eq (show land1 X (peer X c) s = (iprop((∃ f, dst.view.loc ((peer X c : Dev nD) : Thread nD τ) ↦[dst.view.set]{fullShare} f)
      ∗ reached ER (((peer X c : Dev nD) : Thread nD τ), rS X s) 0) : sProp 𝕄) from by rw [land1, hd, any_])) $$ Hl
  unfold kit1
  icases Hk with ⟨Ht, Hr, Ht', Hp, Hp', Hcr⟩
  icases Hl with ⟨⟨%fd, Hl⟩, Hr'⟩
  ihave HI := (prot_send B κ c h) $$ HP
  ihave HI' := (prot_recv B κ (peer X c) h) $$ HP
  have hpeer : (if decide (X.val < 2) = true then right c else left c) = peer X c := by unfold peer; simp only [decide_eq_true_eq]
  have hO : OW c j = OW c (j + 1) + tallyAt (((peer X c : Dev nD) : Thread nD τ), rS X s) (1 + s) N := by
    rw [OW_step c hj, payBy]; dsimp only [Pay.tally]; rw [hpeer]
  have hpay₁ : at_ src c q x ⊢ (Rd B).payload ((c : Thread nD τ), sS X s) 0 false := by
    rw [payload_send B c h, hx]
  have hpay₂ : (dst.view.loc ((peer X c : Dev nD) : Thread nD τ) ↦[dst.view.set]{fullShare} (dst.view.write (Elt F) fd (src.view.read (Elt F) (src.view.rep x)) Finset.univ) : sProp 𝕄)
      ⊢ (Rd B).payload (((peer X c : Dev nD) : Thread nD τ), rS X s) 0 false := by
    rw [payload_recv B _ h]
    obtain ⟨s, rfl⟩ : ∃ t, s = t + 1 := ⟨s - 1, by omega⟩
    rw [orig_peer X c s (by have := cnt_le X; omega), show orig X c s = orig X c (s + 1 - 1) from rfl, hp]
    exact at_of_read dst (peer X c) fullShare x _ (by rw [View.read_write_univ, View.read_rep])
  unfold at_ at hpay₁
  iapply (Rounds.wp_send_pointsTo 𝒱₀ ER (Rd B) (c : Thread nD τ) none (κ₁ := κ ((c : Thread nD τ), sS X s)) (κ₂ := κ (((peer X c : Dev nD) : Thread nD τ), rS X s))
    (r₁ := 0) (r₂ := 0) (d₁ := false) (d₂ := false) (fd := fd)
    (by rw [duties_send B c h h1]; exact Finset.mem_singleton_self _) (by rw [duties_recv B _ h h1]; exact Finset.mem_singleton_self _)
    (1 + s) 0 N hN' (by exact amount_send B c h false) (by exact amount_recv B _ h false) (OW c (j + 1)) hO (W := W) hpay₁ hpay₂)
    $$ [HI HI' Hs Hl HO Ht Hr Ht' Hr']
  · isplitl [HI]; · iexact HI
    isplitl [HI']; · iexact HI'
    isplitl [Hs]; · iexact Hs
    isplitl [Hl]; · iexact Hl
    isplitl [HO]; · iexact HO
    isplitl [Ht]; · iexact Ht
    isplitl [Hr]; · iexact Hr
    isplitl [Ht']; · iexact Ht'
    iexact Hr'
  iintro ⟨Hcs, HO⟩
  iapply Hc
  unfold flS flR owesK
  isplitl [Hp Hcs]
  · isplitl [Hp] <;> iassumption
  isplitl [Hp' Hcr]
  · isplitl [Hp'] <;> iassumption
  iexists W; iexact HO

/-- The wait for the reading of copy `s`: the source comes back. -/
theorem waitS {α : Type} {Q : α → sProp 𝕄} {k : PUnit → Prog (TpuEff nD τ sig (Elt F) Λ₀ .tc) α}
    (X : Fin 4) (s : ℕ) (h1 : 1 ≤ s) (h : s < cnt X) (j : ℕ) (hj : ∀ y ∈ shape.drop j, 0 < y.2.2.1 ∧ y.2.2.1 < 10)
    {S S' : Shape} {e e' : EltTy} {sp : Space} {sp' : Space} {src : Memref sig .tc sp' S' e'} {dst : Memref sig .tc sp S e} {hsrc : src.view.WordExact} {hdst : dst.view.WordExact}
    {sd : DmaSem sig} (hs : SemLoc.dma sd = sS X s) (hN : dst.view.dmaCredit = N) :
    prot B κ ⊢ iprop(flS c X s -∗ owesK c j -∗ ((srcAt B X c s ∗ semVal ((c : Thread nD τ), sS X s) 0 ∗ owesK c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sd src dst hsrc hdst) k) Q) := by
  iintro #HP Hf HO Hc
  ihave HO := (show owesK c j ⊢ (iprop(∃ W, owes (c : Thread nD τ) (OW c j) W) : sProp 𝕄) from .rfl) $$ HO
  icases HO with ⟨%W, HO⟩
  unfold flS
  icases Hf with ⟨Hp, Hcr⟩
  ihave HI := (prot_send B κ c h) $$ HP
  ihave #HI := HI
  ihave HM := (show prot B κ ⊢ MayWait (c : Thread nD τ) (sS X s) 0 (OW c j) from by
    unfold prot; iintro ⟨-, H⟩; iapply (mayWait_OW c j 0 (by decide) (sS X s) hj); iexact H) $$ HP
  have hw : ∀ K : PUnit → sProp 𝕄, wpE (defs₀ (F := F)) 𝒱₀ (c : Thread nD τ) none Set.univ (.waitDma2 sd src dst hsrc hdst) K
      = waitSpec (c : Thread nD τ) Set.univ (sS X s) N K := fun K => by rw [← hs, ← hN]; rfl
  iapply (Rounds.wp_wait_rest_token 𝒱₀ ER (Rd B) (c : Thread nD τ) none (κ := κ ((c : Thread nD τ), sS X s)) hw (Set.mem_univ _) 0 (O := OW c j) (W := W)
    (R := 0) (m := 0) (T := ∅) (by rw [expect_send B c h h1, Nat.zero_add])) $$ [Hcr HO HM Hp]
  · isplitr; · iexact HI
    isplitl [Hcr]; · iexact Hcr
    isplitl [HO]; · iexact HO
    isplitl [HM]; · iexact HM
    iexact Hp
  iintro ⟨HO, Hp, -, Hpay⟩
  ihave Hpay := (Entails.of_eq (show bigSep ((Rd B).duties ((c : Thread nD τ), sS X s) 0 \ ∅) (fun d => (Rd B).payload ((c : Thread nD τ), sS X s) 0 d) = (srcAt B X c s : sProp 𝕄) from by
    rw [duties_send B c h h1, Finset.sdiff_empty, bigSep_singleton, payload_send B c h])) $$ Hpay
  imod (Rounds.cell_close ER (Rd B) (g := ((c : Thread nD τ), sS X s)) (R := 0 + 1) (Set.mem_univ _) id (fun r hr => Rd_later B _ r hr)) $$ [Hp] with Hz
  · isplitr; · iexact HI
    iexact Hp
  iapply Hc
  isplitl [Hpay]; · iexact Hpay
  isplitl [Hz]; · iexact Hz
  unfold owesK; iexists _; iexact HO

/-- The wait for the landing of copy `s`: the landing slot comes, holding the block of the device `s` places away. -/
theorem waitR {α : Type} {Q : α → sProp 𝕄} {k : PUnit → Prog (TpuEff nD τ sig (Elt F) Λ₀ .tc) α}
    (X : Fin 4) (s : ℕ) (h1 : 1 ≤ s) (h : s < cnt X) (j : ℕ) (hj : ∀ y ∈ shape.drop j, 1 + s < y.2.2.1 ∧ y.2.2.1 < 10)
    {S S' : Shape} {e e' : EltTy} {sp : Space} {sp' : Space} {src : Memref sig .tc sp' S' e'} {dst : Memref sig .tc sp S e} {hsrc : src.view.WordExact} {hdst : dst.view.WordExact}
    {rd : DmaSem sig} (hs : SemLoc.dma rd = rS X s) (hN : dst.view.dmaCredit = N) :
    prot B κ ⊢ iprop(flR c X s -∗ owesK c j -∗ ((slotAt B X c s fullShare (orig X c s) ∗ semVal ((c : Thread nD τ), rS X s) 0 ∗ owesK c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 rd src dst hsrc hdst) k) Q) := by
  iintro #HP Hf HO Hc
  ihave HO := (show owesK c j ⊢ (iprop(∃ W, owes (c : Thread nD τ) (OW c j) W) : sProp 𝕄) from .rfl) $$ HO
  icases HO with ⟨%W, HO⟩
  unfold flR
  icases Hf with ⟨Hp, Hcr⟩
  ihave HI := (prot_recv B κ c h) $$ HP
  ihave #HI := HI
  ihave HM := (show prot B κ ⊢ MayWait (c : Thread nD τ) (rS X s) (1 + s) (OW c j) from by
    unfold prot; iintro ⟨-, H⟩; iapply (mayWait_OW c j (1 + s) (by have := cnt_le X; omega) (rS X s) hj); iexact H) $$ HP
  have hw : ∀ K : PUnit → sProp 𝕄, wpE (defs₀ (F := F)) 𝒱₀ (c : Thread nD τ) none Set.univ (.waitDma2 rd src dst hsrc hdst) K
      = waitSpec (c : Thread nD τ) Set.univ (rS X s) N K := fun K => by rw [← hs, ← hN]; rfl
  iapply (Rounds.wp_wait_rest_token 𝒱₀ ER (Rd B) (c : Thread nD τ) none (κ := κ ((c : Thread nD τ), rS X s)) hw (Set.mem_univ _) (1 + s) (O := OW c j) (W := W)
    (R := 0) (m := 0) (T := ∅) (by rw [expect_recv B c h h1, Nat.zero_add])) $$ [Hcr HO HM Hp]
  · isplitr; · iexact HI
    isplitl [Hcr]; · iexact Hcr
    isplitl [HO]; · iexact HO
    isplitl [HM]; · iexact HM
    iexact Hp
  iintro ⟨HO, Hp, -, Hpay⟩
  ihave Hpay := (Entails.of_eq (show bigSep ((Rd B).duties ((c : Thread nD τ), rS X s) 0 \ ∅) (fun d => (Rd B).payload ((c : Thread nD τ), rS X s) 0 d) = (slotAt B X c s fullShare (orig X c s) : sProp 𝕄) from by
    rw [duties_recv B c h h1, Finset.sdiff_empty, bigSep_singleton, payload_recv B c h])) $$ Hpay
  imod (Rounds.cell_close ER (Rd B) (g := ((c : Thread nD τ), rS X s)) (R := 0 + 1) (Set.mem_univ _) id (fun r hr => Rd_later B _ r hr)) $$ [Hp] with Hz
  · isplitr; · iexact HI
    iexact Hp
  iapply Hc
  isplitl [Hpay]; · iexact Hpay
  isplitl [Hz]; · iexact Hz
  unfold owesK; iexists _; iexact HO

/-- A ready signal to a neighbour `d`, handing over what it is owed. -/
theorem signal {α : Type} {Q : α → sProp 𝕄} {k : PUnit → Prog (TpuEff nD τ sig (Elt F) Λ₀ .tc) α}
    (d n : Dev nD) (hd : d = n) (b : Bool) (j : ℕ) (hO : OW c j = OW c (j + 1) + tallyAt ((n : Thread nD τ), bS) 1 1) :
    prot B κ ⊢ iprop(dutyTok ER ((n : Thread nD τ), bS) 0 b -∗ reached ER ((n : Thread nD τ), bS) 0 -∗ barP n b -∗ owesK c j
      -∗ (owesK c (j + 1) -∗ wp frame (wpE (defs₀ (F := F)) 𝒱₀ (c : Thread nD τ) none) Set.univ (k ⟨⟩) Q) -∗ wp frame (wpE (defs₀ (F := F)) 𝒱₀ (c : Thread nD τ) none) Set.univ (.op (.semSignal (d, .tc) (sig.barrier 0 rfl) 1) k) Q) := by
  subst hd
  iintro #HP Ht Hr Hb HO Hc
  ihave HO := (show owesK c j ⊢ (iprop(∃ W, owes (c : Thread nD τ) (OW c j) W) : sProp 𝕄) from .rfl) $$ HO
  icases HO with ⟨%W, HO⟩
  ihave HI := (prot_bar B κ d) $$ HP
  ihave Hb := (Entails.of_eq (show barP d b = (Rd B).payload (((d : Dev nD) : Thread nD τ), SemLoc.reg (sig.barrier 0 rfl)) 0 b from rfl)) $$ Hb
  have hd : b ∈ (Rd B).duties (((d : Dev nD) : Thread nD τ), SemLoc.reg (sig.barrier 0 rfl)) 0 := by
    rw [show (Rd B).duties (((d : Dev nD) : Thread nD τ), SemLoc.reg (sig.barrier 0 rfl)) 0 = {false, true} from rfl]; cases b <;> decide
  iapply (Rounds.wp_signal 𝒱₀ ER (Rd B) (c : Thread nD τ) none (κ := κ ((d : Thread nD τ), bS)) hd (k' := 1) rfl 1 (OW c (j + 1)) hO (W := W)) $$ [HI HO Ht Hr Hb]
  · isplitl [HI]; · iexact HI
    isplitl [HO]; · iexact HO
    isplitl [Ht]; · iexact Ht
    isplitl [Hb]; · iexact Hb
    iexact Hr
  iintro HO
  iapply Hc
  unfold owesK; iexists W; iexact HO

/-- The barrier wait: both neighbours' landing slots come, and the barrier cell has passed its one round. -/
theorem waitB {α : Type} {Q : α → sProp 𝕄} {k : PUnit → Prog (TpuEff nD τ sig (Elt F) Λ₀ .tc) α}
    (j : ℕ) (hj : ∀ y ∈ shape.drop j, 1 < y.2.2.1 ∧ y.2.2.1 < 10) :
    prot B κ ⊢ iprop(atPos ER ((c : Thread nD τ), bS) 0 ∅ 0 -∗ cred (tallyAt ((c : Thread nD τ), bS) 1 2) -∗ owesK c j
      -∗ ((barP c true ∗ barP c false ∗ atPos ER ((c : Thread nD τ), bS) 1 ∅ 0 ∗ owesK c j) -∗ wp frame (wpE (defs₀ (F := F)) 𝒱₀ (c : Thread nD τ) none) Set.univ (k ⟨⟩) Q)
      -∗ wp frame (wpE (defs₀ (F := F)) 𝒱₀ (c : Thread nD τ) none) Set.univ (.op (.semWait (sig.barrier 0 rfl) 2) k) Q) := by
  iintro #HP Hp Hcr HO Hc
  ihave HO := (show owesK c j ⊢ (iprop(∃ W, owes (c : Thread nD τ) (OW c j) W) : sProp 𝕄) from .rfl) $$ HO
  icases HO with ⟨%W, HO⟩
  ihave HI := (prot_bar B κ c) $$ HP
  ihave HM := (show prot B κ ⊢ MayWait (c : Thread nD τ) bS 1 (OW c j) from by
    unfold prot; iintro ⟨-, H⟩; iapply (mayWait_OW c j 1 (by decide) bS hj); iexact H) $$ HP
  iapply (Rounds.wp_wait_rest_token 𝒱₀ ER (Rd B) (c : Thread nD τ) none (κ := κ ((c : Thread nD τ), bS)) (wpE_semWait_eq 𝒱₀ (c : Thread nD τ) none Set.univ) (Set.mem_univ _) 1
    (O := OW c j) (W := W) (R := 0) (m := 0) (T := ∅) (by rw [Nat.zero_add]; rfl)) $$ [HI Hcr HO HM Hp]
  · isplitl [HI]; · iexact HI
    isplitl [Hcr]; · iexact Hcr
    isplitl [HO]; · iexact HO
    isplitl [HM]; · iexact HM
    iexact Hp
  iintro ⟨HO, Hp, -, Hpay⟩
  ihave Hpay' := (Entails.of_eq (show bigSep ((Rd B).duties ((c : Thread nD τ), SemLoc.reg (sig.barrier 0 rfl)) 0 \ ∅) (fun d => (Rd B).payload ((c : Thread nD τ), SemLoc.reg (sig.barrier 0 rfl)) 0 d)
      = (iprop(barP c false ∗ barP c true) : sProp 𝕄) from by
        rw [Finset.sdiff_empty]
        change bigSep ({false, true} : Finset Bool) (fun d => barP c d) = _
        rw [bigSep_insert (by decide), bigSep_singleton]; rfl)) $$ Hpay
  icases Hpay' with ⟨Hf, Ht⟩
  iapply Hc
  isplitl [Ht]; · iexact Ht
  isplitl [Hf]; · iexact Hf
  isplitl [Hp]; · iexact Hp
  unfold owesK; iexists _; iexact HO

end Cert.KernelIdeal.Ring
-- ==== Proof.Steps.lean ====
/-
  The ring's rules in the form the run uses them: a chain's bundles shrink from the front, what has come back grows.
-/
module

public import proofs.«01_k».proof.Proof.Proto
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

/-- The send semaphores of copies 1 to `s` of a chain, at zero, -/
def zS (X : Fin 4) : ℕ → sProp 𝕄
  | 0 => iprop(emp)
  | s + 1 => iprop(semVal ((c : Thread nD τ), sS X (s + 1)) 0 ∗ zS X s)
/-- and the receive semaphores. -/
def zR (X : Fin 4) : ℕ → sProp 𝕄
  | 0 => iprop(emp)
  | s + 1 => iprop(semVal ((c : Thread nD τ), rS X (s + 1)) 0 ∗ zR X s)
/-- The landing slots 1 to `s` of a chain, whatever they hold. -/
def bk (X : Fin 4) : ℕ → sProp 𝕄
  | 0 => iprop(emp)
  | s + 1 => iprop(slotAny X c (s + 1) ∗ bk X s)

theorem at_split {S : Shape} (m : Memref sig .tc .vmem S .bf16) (x : S.Idx → Elt F .bf16) :
    at_ m c fullShare x ⊢ (iprop(at_ m c fullShare.left x ∗ at_ m c fullShare.right x) : sProp 𝕄) := by
  unfold at_; exact (pointsTo_share (q := fullShare) (q₁ := fullShare.left) (q₂ := fullShare.right) (by rw [PosShare.left_op_right]; exact Part.mem_some _)).1
theorem at_join {S : Shape} (m : Memref sig .tc .vmem S .bf16) (x : S.Idx → Elt F .bf16) :
    (iprop(at_ m c fullShare.left x ∗ at_ m c fullShare.right x) : sProp 𝕄) ⊢ any_ m c := by
  unfold at_ any_
  iintro H
  iexists (m.view.rep x)
  iapply ((pointsTo_share (q := fullShare) (q₁ := fullShare.left) (q₂ := fullShare.right) (by rw [PosShare.left_op_right]; exact Part.mem_some _)).2)
  iexact H

theorem slot_split (X : Fin 4) (s : ℕ) (p : Dev nD) :
    slotAt B X c s fullShare p ⊢ (iprop(slotAt B X c s fullShare.left p ∗ slotAt B X c s fullShare.right p) : sProp 𝕄) := by
  have e : (iprop(emp) : sProp 𝕄) ⊢ iprop(emp ∗ emp) := BI.emp_sep.2
  unfold slotAt
  split <;> split <;> first | exact at_split c _ _ | exact e
theorem slot_join (X : Fin 4) (s : ℕ) (p : Dev nD) :
    (iprop(slotAt B X c s fullShare.left p ∗ slotAt B X c s fullShare.right p) : sProp 𝕄) ⊢ slotAny X c s := by
  have e : (iprop(emp ∗ emp) : sProp 𝕄) ⊢ iprop(emp) := BI.emp_sep.1
  unfold slotAt slotAny
  split <;> split <;> first | exact at_join c _ _ | exact e

/-- Copy `s` of chain `X`, with the chain's bundles and landing slots from `s` on. -/
theorem sendK {α : Type} {Q : α → sProp 𝕄} {k : PUnit → Prog (TpuEff nD τ sig (Elt F) Λ₀ .tc) α}
    (X : Fin 4) (s n : ℕ) (h1 : 1 ≤ s) (h : s < cnt X) {S : Shape} (src dst : Memref sig .tc .vmem S .bf16) (q : PosShare TreeShare)
    (x : S.Idx → Elt F .bf16) (j : ℕ) (hj : shape.drop j = (decide (X.val < 2), rS X s, 1 + s, N) :: shape.drop (j + 1))
    (hx : srcAt B X c s = at_ src c q x) (hd : ∀ d : Dev nD, (slotAny X d s : sProp 𝕄) = any_ dst d)
    (hp : ∀ d : Dev nD, slotAt B X d s fullShare (orig X c (s - 1)) = at_ dst d fullShare x) (hN : dst.view.dmaCredit = N)
    (d : Dev nD) (hdv : d = peer X c) {sd rd : SemLoc sig} (hs : sd = sS X s) (hr : rd = rS X s)
    {hsc : (dst : Memref sig (Dev.tc d : Thread nD τ).2.kind .vmem S .bf16).view.ref.isScScratch = false}
    {hsrc : src.view.WordExact} {hdst : dst.view.WordExact}
    {hsem : DmaTarget.Typed .vmem rd (.remote (Dev.tc d : Thread nD τ) (dst : Memref sig (Dev.tc d : Thread nD τ).2.kind .vmem S .bf16) sd hsc)} :
    prot B κ ⊢ iprop(srcAt B X c s -∗ kit c X s (n + 1) -∗ land X (peer X c) s (n + 1) -∗ owesK c j
      -∗ ((flS c X s ∗ flR c X s ∗ kit c X (s + 1) n ∗ land X (peer X c) (s + 1) n ∗ owesK c (j + 1)) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.remote (Dev.tc d : Thread nD τ) dst sd hsc) rd hsrc hdst hsem) k) Q) := by
  iintro #HP Hs Hk Hl HO Hc
  ihave Hk := (show kit c X s (n + 1) ⊢ (iprop(kit1 c X s ∗ kit c X (s + 1) n) : sProp 𝕄) from .rfl) $$ Hk
  ihave Hl := (show land X (peer X c) s (n + 1) ⊢ (iprop(land1 X (peer X c) s ∗ land X (peer X c) (s + 1) n) : sProp 𝕄) from .rfl) $$ Hl
  icases Hk with ⟨Hk, Hks⟩
  icases Hl with ⟨Hl, Hls⟩
  iapply (send B κ c X s h1 h src dst q x j hj hx hd hp hN d hdv hs hr) $$ HP Hs Hk Hl HO
  iintro ⟨Ha, Hb, HO⟩
  iapply Hc
  isplitl [Ha]; · iexact Ha
  isplitl [Hb]; · iexact Hb
  isplitl [Hks]; · iexact Hks
  isplitl [Hls]; · iexact Hls
  iexact HO

/-- The wait for the reading of a first copy. -/
theorem waitS1 {α : Type} {Q : α → sProp 𝕄} {k : PUnit → Prog (TpuEff nD τ sig (Elt F) Λ₀ .tc) α}
    (X : Fin 4) (h : 1 < cnt X) (j : ℕ) (hj : ∀ y ∈ shape.drop j, 0 < y.2.2.1 ∧ y.2.2.1 < 10)
    {S S' : Shape} {e e' : EltTy} {sp : Space} {sp' : Space} (src : Memref sig .tc sp' S' e') (dst : Memref sig .tc sp S e) {hsrc : src.view.WordExact} {hdst : dst.view.WordExact}
    {sd : DmaSem sig} (hs : SemLoc.dma sd = sS X 1) (hN : dst.view.dmaCredit = N) :
    prot B κ ⊢ iprop(flS c X 1 -∗ owesK c j -∗ ((stgAt B X c (lend X) (orig X c 0) ∗ zS c X 1 ∗ owesK c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sd src dst hsrc hdst) k) Q) := by
  iintro #HP Hf HO Hc
  iapply (waitS B κ c X 1 le_rfl h j hj hs hN) $$ HP Hf HO
  iintro ⟨Hs, Hz, HO⟩
  iapply Hc
  isplitl [Hs]; · iapply (show srcAt B X c 1 ⊢ (stgAt B X c (lend X) (orig X c 0) : sProp 𝕄) from .rfl); iexact Hs
  isplitl [Hz]
  · unfold zS zS
    isplitl [Hz]; · iexact Hz
    iempintro
  iexact HO

/-- The wait for the reading of a later copy: the slot it read comes back whole. -/
theorem waitS2 {α : Type} {Q : α → sProp 𝕄} {k : PUnit → Prog (TpuEff nD τ sig (Elt F) Λ₀ .tc) α}
    (X : Fin 4) (s : ℕ) (h : s + 2 < cnt X) (j : ℕ) (hj : ∀ y ∈ shape.drop j, 0 < y.2.2.1 ∧ y.2.2.1 < 10)
    {S S' : Shape} {e e' : EltTy} {sp : Space} {sp' : Space} (src : Memref sig .tc sp' S' e') (dst : Memref sig .tc sp S e) {hsrc : src.view.WordExact} {hdst : dst.view.WordExact}
    {sd : DmaSem sig} (hs : SemLoc.dma sd = sS X (s + 2)) (hN : dst.view.dmaCredit = N) :
    prot B κ ⊢ iprop(flS c X (s + 2) -∗ owesK c j -∗ slotAt B X c (s + 1) fullShare.right (orig X c (s + 1)) -∗ bk c X s -∗ zS c X (s + 1)
      -∗ ((bk c X (s + 1) ∗ zS c X (s + 2) ∗ owesK c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sd src dst hsrc hdst) k) Q) := by
  iintro #HP Hf HO Hr Hb HZ Hc
  iapply (waitS B κ c X (s + 2) (by omega) h j hj hs hN) $$ HP Hf HO
  iintro ⟨Hs, Hz, HO⟩
  ihave Hs := (Entails.of_eq (show srcAt B X c (s + 2) = (slotAt B X c (s + 1) fullShare.left (orig X c (s + 1)) : sProp 𝕄) from if_neg (by omega))) $$ Hs
  iapply Hc
  isplitl [Hs Hr Hb]
  · iapply (show (iprop(slotAny X c (s + 1) ∗ bk c X s) : sProp 𝕄) ⊢ bk c X (s + 1) from .rfl)
    isplitl [Hs Hr]
    · iapply (slot_join B c X (s + 1) (orig X c (s + 1)))
      isplitl [Hs] <;> iassumption
    iexact Hb
  isplitl [Hz HZ]
  · iapply (show (iprop(semVal ((c : Thread nD τ), sS X (s + 2)) 0 ∗ zS c X (s + 1)) : sProp 𝕄) ⊢ zS c X (s + 2) from .rfl)
    isplitl [Hz] <;> iassumption
  iexact HO

/-- The wait for a landing: the slot comes in two halves, one to send on and one to read. -/
theorem waitR2 {α : Type} {Q : α → sProp 𝕄} {k : PUnit → Prog (TpuEff nD τ sig (Elt F) Λ₀ .tc) α}
    (X : Fin 4) (s : ℕ) (h : s + 1 < cnt X) (j : ℕ) (hj : ∀ y ∈ shape.drop j, 1 + (s + 1) < y.2.2.1 ∧ y.2.2.1 < 10)
    {S S' : Shape} {e e' : EltTy} {sp : Space} {sp' : Space} (src : Memref sig .tc sp' S' e') (dst : Memref sig .tc sp S e) {hsrc : src.view.WordExact} {hdst : dst.view.WordExact}
    {rd : DmaSem sig} (hs : SemLoc.dma rd = rS X (s + 1)) (hN : dst.view.dmaCredit = N) :
    prot B κ ⊢ iprop(flR c X (s + 1) -∗ owesK c j -∗ zR c X s
      -∗ ((srcAt B X c (s + 2) ∗ slotAt B X c (s + 1) fullShare.right (orig X c (s + 1)) ∗ zR c X (s + 1) ∗ owesK c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 rd src dst hsrc hdst) k) Q) := by
  iintro #HP Hf HO HZ Hc
  iapply (waitR B κ c X (s + 1) (by omega) h j hj hs hN) $$ HP Hf HO
  iintro ⟨Hs, Hz, HO⟩
  ihave Hs := (slot_split B c X (s + 1) (orig X c (s + 1))) $$ Hs
  icases Hs with ⟨Hs, Hs'⟩
  ihave Hs := (Entails.of_eq (show (slotAt B X c (s + 1) fullShare.left (orig X c (s + 1)) : sProp 𝕄) = srcAt B X c (s + 2) from (if_neg (by omega)).symm)) $$ Hs
  iapply Hc
  isplitl [Hs]; · iexact Hs
  isplitl [Hs']; · iexact Hs'
  isplitl [Hz HZ]
  · iapply (show (iprop(semVal ((c : Thread nD τ), rS X (s + 1)) 0 ∗ zR c X s) : sProp 𝕄) ⊢ zR c X (s + 1) from .rfl)
    isplitl [Hz] <;> iassumption
  iexact HO

/-- The kernel's body at its buffers. -/
abbrev bodyC : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8 cc0_scratch9 cc0_scratch10 cc0_scratch11 cc0_scratch12 cc0_scratch13 cc0_scratch14

/-- A whole buffer of device `c`, holding `f`. -/
abbrev pt {S : Shape} {e : EltTy} (c : Dev nD) (m : Memref sig .tc .vmem S e) (f : Buf (Elt F) (m.view.loc (c : Thread nD τ))) : sProp 𝕄 := m.view.loc (c : Thread nD τ) ↦[Finset.univ]{fullShare} f

/-- The barrier signals are the first two payments. -/
theorem OW_bar0 : OW c 0 = OW c (0 + 1) + tallyAt ((left c : Thread nD τ), bS) 1 1 :=
  OW_step c (k := 0) (y := (false, bS, 1, 1)) rfl
theorem OW_bar1 : OW c 1 = OW c (1 + 1) + tallyAt ((right c : Thread nD τ), bS) 1 1 :=
  OW_step c (k := 1) (y := (true, bS, 1, 1)) rfl

theorem barP_true : barP c true ⊢ (iprop(land 0 (peer 0 c) 1 8 ∗ land 1 (peer 1 c) 1 8) : sProp 𝕄) := .rfl
theorem barP_false : barP c false ⊢ (iprop(land 2 (peer 2 c) 1 7 ∗ land 3 (peer 3 c) 1 7) : sProp 𝕄) := .rfl

end Cert.KernelIdeal.Ring
-- ==== Proof.Deal.lean ====
/-
  What the launch deals a device, listed copy by copy, and how it becomes the bundles of the run.
-/
module

public import proofs.«01_k».proof.Proof.Steps
public import Idealize.ShloMosaic.Lib.Pipeline.BigSepL
public import Idealize.ShloMosaic.Lib.Pipeline.TalkSched

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

/-! ## Chains over lists -/

theorem sepL_congr {I : Type} {l : List I} {Φ Ψ : I → sProp 𝕄} (h : ∀ i ∈ l, Φ i = Ψ i) : bigSepL l Φ = bigSepL l Ψ := by
  induction l with
  | nil => rfl
  | cons i l ih => rw [bigSepL_cons, bigSepL_cons, h i List.mem_cons_self, ih fun j hj => h j (List.mem_cons_of_mem _ hj)]
theorem sepL_sep {I : Type} (l : List I) (Φ Ψ : I → sProp 𝕄) : bigSepL l (fun i => iprop(Φ i ∗ Ψ i)) = iprop(bigSepL l Φ ∗ bigSepL l Ψ) := by
  induction l with
  | nil => exact equiv_iff.mp ⟨BI.emp_sep.2, BI.emp_sep.1⟩
  | cons i l ih =>
    rw [bigSepL_cons', bigSepL_cons', bigSepL_cons', ih]
    refine equiv_iff.mp ⟨?_, ?_⟩
    · show (iprop((Φ i ∗ Ψ i) ∗ bigSepL l Φ ∗ bigSepL l Ψ) : sProp 𝕄) ⊢ iprop((Φ i ∗ bigSepL l Φ) ∗ Ψ i ∗ bigSepL l Ψ)
      iintro ⟨⟨Ha, Hb⟩, Hc, Hd⟩
      isplitl [Ha Hc]
      · isplitl [Ha] <;> iassumption
      isplitl [Hb] <;> iassumption
    · show (iprop((Φ i ∗ bigSepL l Φ) ∗ Ψ i ∗ bigSepL l Ψ) : sProp 𝕄) ⊢ iprop((Φ i ∗ Ψ i) ∗ bigSepL l Φ ∗ bigSepL l Ψ)
      iintro ⟨⟨Ha, Hc⟩, Hb, Hd⟩
      isplitl [Ha Hb]
      · isplitl [Ha] <;> iassumption
      isplitl [Hc] <;> iassumption
/-- An update of every member, from something that may be used any number of times. -/
theorem sepL_upd {I : Type} (R : sProp 𝕄) [BI.Persistent R] {l : List I} {Φ Ψ : I → sProp 𝕄}
    (h : ∀ i ∈ l, iprop(R ∗ Φ i) ⊢ |={Set.univ}=> Ψ i) : iprop(R ∗ bigSepL l Φ) ⊢ |={Set.univ}=> bigSepL l Ψ := by
  induction l with
  | nil => iintro ⟨-, H⟩; imodintro; iexact H
  | cons i l ih =>
    rw [bigSepL_cons', bigSepL_cons']
    iintro ⟨#HR, Ha, Hb⟩
    imod (h i List.mem_cons_self) $$ [Ha] with Ha
    · isplitr; · iexact HR
      iexact Ha
    imod (ih fun j hj => h j (List.mem_cons_of_mem _ hj)) $$ [Hb] with Hb
    · isplitr; · iexact HR
      iexact Hb
    imodintro
    isplitl [Ha] <;> iassumption

/-! ## The copies, chain by chain -/

/-- `n` copies of chain `X` from `s` on, -/
def row (X : Fin 4) : ℕ → ℕ → List (Fin 4 × ℕ)
  | _, 0 => []
  | s, n + 1 => (X, s) :: row X (s + 1) n
/-- and copies `s` down to 1. -/
def col (X : Fin 4) : ℕ → List (Fin 4 × ℕ)
  | 0 => []
  | s + 1 => (X, s + 1) :: col X s
/-- All copies, upwards -/
def rows : List (Fin 4 × ℕ) := row 0 1 8 ++ (row 1 1 8 ++ (row 2 1 7 ++ row 3 1 7))
/-- and downwards. -/
def cols : List (Fin 4 × ℕ) := col 0 8 ++ (col 1 8 ++ (col 2 7 ++ col 3 7))

theorem rows_lt : ∀ x ∈ rows, x.2 < cnt x.1 := by decide

theorem rows_sep (Φ : Fin 4 × ℕ → sProp 𝕄) : bigSepL rows Φ = iprop(bigSepL (row 0 1 8) Φ ∗ bigSepL (row 1 1 8) Φ ∗ bigSepL (row 2 1 7) Φ ∗ bigSepL (row 3 1 7) Φ) := by
  rw [rows, bigSepL_append, bigSepL_append, bigSepL_append]
theorem cols_sep (Φ : Fin 4 × ℕ → sProp 𝕄) : bigSepL cols Φ = iprop(bigSepL (col 0 8) Φ ∗ bigSepL (col 1 8) Φ ∗ bigSepL (col 2 7) Φ ∗ bigSepL (col 3 7) Φ) := by
  rw [cols, bigSepL_append, bigSepL_append, bigSepL_append]

variable (B : Blocks F) (κ : GSem nD τ sig → ℕ) (c : Dev nD)

theorem kit_row (X : Fin 4) (s n : ℕ) : (kit c X s n : sProp 𝕄) = bigSepL (row X s n) fun x => kit1 c x.1 x.2 := by
  induction n generalizing s with
  | zero => rfl
  | succ n ih => rw [kit, row, bigSepL_cons', ih]
theorem land_row (X : Fin 4) (s n : ℕ) : (land X c s n : sProp 𝕄) = bigSepL (row X s n) fun x => land1 x.1 c x.2 := by
  induction n generalizing s with
  | zero => rfl
  | succ n ih => rw [land, row, bigSepL_cons', ih]
theorem zS_col (X : Fin 4) (n : ℕ) : (zS c X n : sProp 𝕄) = bigSepL (col X n) fun x => semVal ((c : Thread nD τ), sS x.1 x.2) 0 := by
  induction n with
  | zero => rfl
  | succ n ih => rw [zS, col, bigSepL_cons', ih]
theorem zR_col (X : Fin 4) (n : ℕ) : (zR c X n : sProp 𝕄) = bigSepL (col X n) fun x => semVal ((c : Thread nD τ), rS x.1 x.2) 0 := by
  induction n with
  | zero => rfl
  | succ n ih => rw [zR, col, bigSepL_cons', ih]
theorem bk_col (X : Fin 4) (n : ℕ) : (bk c X n : sProp 𝕄) = bigSepL (col X n) fun x => slotAny x.1 c x.2 := by
  induction n with
  | zero => rfl
  | succ n ih => rw [bk, col, bigSepL_cons', ih]

/-! ## The kernel's own semaphores -/

/-- The semaphores no copy uses: each chain's first of each kind. -/
def idle : List (Fin 68) := [0, 9, 18, 27, 36, 44, 52, 60]
/-- A copy's send semaphore among the 68, -/
def sIx (x : Fin 4 × ℕ) : Fin 68 := Fin.ofNat 68 (sB x.1 + x.2)
/-- and its receive semaphore. -/
def rIx (x : Fin 4 × ℕ) : Fin 68 := Fin.ofNat 68 (rB x.1 + x.2)

theorem own_split (l : List (Fin 4 × ℕ)) (h : Finset.univ = (idle ++ (l.map sIx ++ l.map rIx)).toFinset) (hn : (idle ++ (l.map sIx ++ l.map rIx)).Nodup)
    (hS : ∀ x ∈ l, osem (sIx x) = sS x.1 x.2) (hR : ∀ x ∈ l, osem (rIx x) = rS x.1 x.2) (Φ : SemLoc sig → sProp 𝕄) :
    (bigSep Finset.univ fun k : Fin 68 => Φ (osem k)) = iprop(bigSepL idle (fun k => Φ (osem k)) ∗ bigSepL l (fun x => Φ (sS x.1 x.2)) ∗ bigSepL l fun x => Φ (rS x.1 x.2)) := by
  rw [bigSep_univ_eq_bigSepL _ h hn, bigSepL_append, bigSepL_append, bigSepL_map, bigSepL_map,
    sepL_congr (l := l) (Φ := fun x => Φ (osem (sIx x))) (Ψ := fun x => Φ (sS x.1 x.2)) fun x hx => by rw [hS x hx],
    sepL_congr (l := l) (Φ := fun x => Φ (osem (rIx x))) (Ψ := fun x => Φ (rS x.1 x.2)) fun x hx => by rw [hR x hx]]

theorem own_rows (Φ : SemLoc sig → sProp 𝕄) :
    (bigSep Finset.univ fun k : Fin 68 => Φ (osem k)) = iprop(bigSepL idle (fun k => Φ (osem k)) ∗ bigSepL rows (fun x => Φ (sS x.1 x.2)) ∗ bigSepL rows fun x => Φ (rS x.1 x.2)) :=
  own_split rows (by decide +kernel) (by decide +kernel) (by decide +kernel) (by decide +kernel) Φ
theorem own_cols (Φ : SemLoc sig → sProp 𝕄) :
    (bigSep Finset.univ fun k : Fin 68 => Φ (osem k)) = iprop(bigSepL idle (fun k => Φ (osem k)) ∗ bigSepL cols (fun x => Φ (sS x.1 x.2)) ∗ bigSepL cols fun x => Φ (rS x.1 x.2)) :=
  own_split cols (by decide +kernel) (by decide +kernel) (by decide +kernel) (by decide +kernel) Φ
theorem dorm_rows (Φ : SemLoc sig → sProp 𝕄) :
    bigSep (fam.dorm 0) Φ = iprop(bigSepL idle (fun k => Φ (osem k)) ∗ bigSepL rows (fun x => Φ (sS x.1 x.2)) ∗ bigSepL rows fun x => Φ (rS x.1 x.2)) := by
  rw [← own_rows]; exact bigSep_map _

/-! ## The duties' tokens -/

/-- The duties device `c` pays, chain by chain. -/
def tokR : List (GSem nD τ sig × ℕ × Bool) :=
  [((((left c : Dev nD) : Thread nD τ), bS), 0, true)] ++ ([((((right c : Dev nD) : Thread nD τ), bS), 0, false)]
    ++ (rows.map (fun x => (((c : Thread nD τ), sS x.1 x.2), 0, false)) ++ rows.map (fun x => ((((peer x.1 c : Dev nD) : Thread nD τ), rS x.1 x.2), 0, false))))

theorem tokR_eq : ∀ c : Dev nD, (tokL c).toFinset = (tokR c).toFinset := by decide +kernel
theorem tokR_nodup : ∀ c : Dev nD, (tokR c).Nodup := by decide +kernel

theorem toks_rows (Φ : GSem nD τ sig × ℕ × Bool → sProp 𝕄) :
    bigSep (fam.toks c 0) Φ = iprop(Φ ((((left c : Dev nD) : Thread nD τ), bS), 0, true) ∗ Φ ((((right c : Dev nD) : Thread nD τ), bS), 0, false)
      ∗ bigSepL rows (fun x => Φ (((c : Thread nD τ), sS x.1 x.2), 0, false)) ∗ bigSepL rows fun x => Φ ((((peer x.1 c : Dev nD) : Thread nD τ), rS x.1 x.2), 0, false)) := by
  rw [show fam.toks c 0 = (tokL c).toFinset from rfl, bigSep_eq_bigSepL_of_eq _ (tokR_eq c) (tokR_nodup c), tokR, bigSepL_append, bigSepL_append, bigSepL_append,
    bigSepL_map, bigSepL_map, bigSepL_singleton, bigSepL_singleton]

/-! ## The launch's credit -/

/-- What device `c` owes at launch. -/
def dueL : List (Pay nD τ sig) := shape.map (payBy c)
/-- What is owed to it. -/
def crL : List (Pay nD τ sig) := [(((c : Thread nD τ), bS), 1, 1), (((c : Thread nD τ), bS), 1, 1)] ++ rows.map fun x => (((c : Thread nD τ), rS x.1 x.2), 1 + x.2, N)

theorem OW_zero : OW c 0 = tallyL (dueL c) := rfl
theorem OW_last : OW c 32 = 0 := rfl

theorem crL_perm : ∀ c : Dev nD, (TalkSites.credOf dueL c).Perm (crL c) := by decide +kernel

theorem due_tc : ∀ x ∈ dueL c, x.1.1.2 = .tc := by
  intro x hx
  obtain ⟨y, -, rfl⟩ := List.mem_map.mp hx
  rfl

theorem tallyL_sum (l : List (Pay nD τ sig)) : tallyL l = (l.map fun x => x.tally).sum := by
  induction l with
  | nil => rfl
  | cons x l ih => rw [tallyL, List.map_cons, List.sum_cons, ih]

theorem cred_rows : (Pipeline.launchCred (fun d => OW d 0) c : sProp 𝕄)
    ⊢ iprop(cred (tallyAt ((c : Thread nD τ), bS) 1 2) ∗ bigSepL rows fun x => cred (tallyAt ((c : Thread nD τ), rS x.1 x.2) (1 + x.2) N)) := by
  rw [show (fun d : Dev nD => OW d 0) = fun d => tallyL (dueL d) from rfl, TalkSites.launchCred_tallyL dueL due_tc c,
    show tallyL (TalkSites.credOf dueL c) = tallyL (crL c) from by
      rw [tallyL_sum, tallyL_sum]; exact ((crL_perm c).map _).sum_eq,
    TalkSites.cred_tallyL, crL, bigSepL_append, bigSepL_map, bigSepL_cons', bigSepL_singleton]
  iintro ⟨⟨Ha, Hb⟩, Hr⟩
  isplitl [Ha Hb]
  · iapply (show (iprop(cred (tallyAt ((c : Thread nD τ), bS) 1 1) ∗ cred (tallyAt ((c : Thread nD τ), bS) 1 1)) : sProp 𝕄) ⊢ cred (tallyAt ((c : Thread nD τ), bS) 1 2)
      from (cred_add _ _).2.trans (.of_eq (congrArg cred (tallyAt_add _ _ 1 1))))
    isplitl [Ha] <;> iassumption
  iexact Hr

/-! ## Opening the cells -/

/-- The two cells of copy `s` of chain `X` open: the copy's bundle, and that its landing cell is at its one round. -/
theorem open1 (X : Fin 4) (s : ℕ) (h : s < cnt X) :
    (iprop(prot B κ ∗ openTok ER ((c : Thread nD τ), sS X s) ∗ openTok ER ((c : Thread nD τ), rS X s)
      ∗ semVal ((c : Thread nD τ), sS X s) 0 ∗ semVal ((c : Thread nD τ), rS X s) 0
      ∗ dutyTok ER ((c : Thread nD τ), sS X s) 0 false ∗ dutyTok ER (((peer X c : Dev nD) : Thread nD τ), rS X s) 0 false
      ∗ cred (tallyAt ((c : Thread nD τ), rS X s) (1 + s) N)) : sProp 𝕄)
      ⊢ |={Set.univ}=> iprop(kit1 c X s ∗ reached ER ((c : Thread nD τ), rS X s) 0) := by
  iintro ⟨#HP, Ho, Ho', Hv, Hv', Ht, Ht', Hc⟩
  ihave HI := (prot_send B κ c h) $$ HP
  ihave HI' := (prot_recv B κ c h) $$ HP
  imod (Rounds.cell_open ER (Rd B) (g := ((c : Thread nD τ), sS X s)) (Set.mem_univ (κ ((c : Thread nD τ), sS X s)))) $$ [HI Ho Hv] with ⟨Hp, Hr⟩
  · isplitl [HI]; · iexact HI
    isplitl [Ho] <;> iassumption
  imod (Rounds.cell_open ER (Rd B) (g := ((c : Thread nD τ), rS X s)) (Set.mem_univ (κ ((c : Thread nD τ), rS X s)))) $$ [HI' Ho' Hv'] with ⟨Hp', Hr'⟩
  · isplitl [HI']; · iexact HI'
    isplitl [Ho'] <;> iassumption
  imodintro
  unfold kit1
  isplitr [Hr']
  · isplitl [Ht]; · iexact Ht
    isplitl [Hr]; · iexact Hr
    isplitl [Ht']; · iexact Ht'
    isplitl [Hp]; · iexact Hp
    isplitl [Hp']; · iexact Hp'
    iexact Hc
  iexact Hr'

theorem openAll :
    (iprop(prot B κ ∗ bigSepL rows (fun x => openTok ER ((c : Thread nD τ), sS x.1 x.2)) ∗ bigSepL rows (fun x => openTok ER ((c : Thread nD τ), rS x.1 x.2))
      ∗ bigSepL rows (fun x => semVal ((c : Thread nD τ), sS x.1 x.2) 0) ∗ bigSepL rows (fun x => semVal ((c : Thread nD τ), rS x.1 x.2) 0)
      ∗ bigSepL rows (fun x => dutyTok ER ((c : Thread nD τ), sS x.1 x.2) 0 false)
      ∗ bigSepL rows (fun x => dutyTok ER (((peer x.1 c : Dev nD) : Thread nD τ), rS x.1 x.2) 0 false)
      ∗ bigSepL rows (fun x => cred (tallyAt ((c : Thread nD τ), rS x.1 x.2) (1 + x.2) N))) : sProp 𝕄)
      ⊢ |={Set.univ}=> iprop(bigSepL rows (fun x => kit1 c x.1 x.2) ∗ bigSepL rows fun x => reached ER ((c : Thread nD τ), rS x.1 x.2) 0) := by
  have h := sepL_upd (prot B κ) (l := rows) (fun x hx => open1 B κ c x.1 x.2 (rows_lt x hx))
  simp only [sepL_sep] at h
  exact h

end Cert.KernelIdeal.Ring
-- ==== Proof.Slots.lean ====
/-
  The landing buffers cut into slots and joined again, and the staged weights' shares.
-/
module

public import proofs.«01_k».proof.Proof.Steps
public import Idealize.ShloMosaic.Lib.Ring.FamCut
public import Idealize.ShloMosaic.Lib.Pipeline.BigSepL
public import Idealize.ShloMosaic.Lib.Pipeline.TableIdle

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring (restOf fam_split_ex fam_join)

variable {F : FTy → Type} [FloatOps F] [Named F]

local notation "𝕄" => MT nD τ sig ℕ (Elt F) ℕ UU ℕ

theorem lt9 (b : Fin 8) : (b : ℕ) + 1 < 9 := by omega
theorem lt8 (b : Fin 7) : (b : ℕ) + 1 < 8 := by omega

/-- Slots 1 to 8 of the first forward buffer, -/
def I0 (b : Fin 8) : Finset cc0_scratch0.ty.shape.Idx := (m0 ((b : ℕ) + 1) (lt9 b)).view.set
/-- of the second, -/
def I1 (b : Fin 8) : Finset cc0_scratch1.ty.shape.Idx := (m1 ((b : ℕ) + 1) (lt9 b)).view.set
/-- slots 1 to 7 of the first backward buffer, -/
def I2 (b : Fin 7) : Finset cc0_scratch2.ty.shape.Idx := (m2 ((b : ℕ) + 1) (lt8 b)).view.set
/-- and of the second. -/
def I3 (b : Fin 7) : Finset cc0_scratch3.ty.shape.Idx := (m3 ((b : ℕ) + 1) (lt8 b)).view.set

theorem step_apart {n : ℕ} {b b' : Fin n} (h : b ≠ b') : (b : ℕ) + 1 + 1 ≤ (b' : ℕ) + 1 ∨ (b' : ℕ) + 1 + 1 ≤ (b : ℕ) + 1 := by
  have : (b : ℕ) ≠ b' := fun e => h (Fin.ext e)
  omega

theorem I0_disj (b b' : Fin 8) (h : b ≠ b') : Disjoint (I0 b) (I0 b') := by
  have e : ∀ b : Fin 8, I0 b = (Rect.unit (s := S9x512x256) ![(b : ℕ) + 1, 0, 0] S1x512x256.size (i9q _ (lt9 b))).set := fun b => (Memref.set_view_squeeze _ _).trans (View.set_slice_whole _ _)
  rw [e, e]
  exact Rect.unit_disjoint (0 : Fin 3) (step_apart h)
theorem I1_disj (b b' : Fin 8) (h : b ≠ b') : Disjoint (I1 b) (I1 b') := by
  have e : ∀ b : Fin 8, I1 b = (Rect.unit (s := S9x256x512) ![(b : ℕ) + 1, 0, 0] S1x256x512.size (i9o _ (lt9 b))).set := fun b => (Memref.set_view_squeeze _ _).trans (View.set_slice_whole _ _)
  rw [e, e]
  exact Rect.unit_disjoint (0 : Fin 3) (step_apart h)
theorem I2_disj (b b' : Fin 7) (h : b ≠ b') : Disjoint (I2 b) (I2 b') := by
  have e : ∀ b : Fin 7, I2 b = (Rect.unit (s := S8x512x256) ![(b : ℕ) + 1, 0, 0] S1x512x256.size (i8q _ (lt8 b))).set := fun b => (Memref.set_view_squeeze _ _).trans (View.set_slice_whole _ _)
  rw [e, e]
  exact Rect.unit_disjoint (0 : Fin 3) (step_apart h)
theorem I3_disj (b b' : Fin 7) (h : b ≠ b') : Disjoint (I3 b) (I3 b') := by
  have e : ∀ b : Fin 7, I3 b = (Rect.unit (s := S8x256x512) ![(b : ℕ) + 1, 0, 0] S1x256x512.size (i8o _ (lt8 b))).set := fun b => (Memref.set_view_squeeze _ _).trans (View.set_slice_whole _ _)
  rw [e, e]
  exact Rect.unit_disjoint (0 : Fin 3) (step_apart h)

variable (c : Dev nD)

/-- What the slots leave of each landing buffer. -/
def rest : sProp 𝕄 := iprop(
  (∃ f, (c : Thread nD τ).loc cc0_scratch0 ↦[restOf (ℓ := (c : Thread nD τ).loc cc0_scratch0) I0]{fullShare} f)
    ∗ (∃ f, (c : Thread nD τ).loc cc0_scratch1 ↦[restOf (ℓ := (c : Thread nD τ).loc cc0_scratch1) I1]{fullShare} f)
    ∗ (∃ f, (c : Thread nD τ).loc cc0_scratch2 ↦[restOf (ℓ := (c : Thread nD τ).loc cc0_scratch2) I2]{fullShare} f)
    ∗ (∃ f, (c : Thread nD τ).loc cc0_scratch3 ↦[restOf (ℓ := (c : Thread nD τ).loc cc0_scratch3) I3]{fullShare} f))

/-- A buffer's members, listed by slot number. -/
theorem members (X : Fin 4) (n : ℕ) {r : Ref sig .tc} (I : Fin n → Finset (Idx ((c : Thread nD τ).loc r))) (l : List (Fin 4 × ℕ))
    (e : Fin n → Fin 4 × ℕ) (lf : List (Fin n)) (hl : Finset.univ = lf.toFinset) (hn : lf.Nodup) (he : l = lf.map e)
    (h : ∀ b, (iprop(∃ f, (c : Thread nD τ).loc r ↦[I b]{fullShare} f) : sProp 𝕄) = slotAny (e b).1 c (e b).2) :
    (bigSep Finset.univ (fun b => (iprop(∃ f, (c : Thread nD τ).loc r ↦[I b]{fullShare} f) : sProp 𝕄))) = bigSepL l fun x => slotAny x.1 c x.2 := by
  rw [bigSep_univ_eq_bigSepL lf hl hn, he, bigSepL_map]
  exact congrArg (bigSepL lf) (funext h)

theorem mem0 (b : Fin 8) : (iprop(∃ f, (c : Thread nD τ).loc cc0_scratch0 ↦[I0 b]{fullShare} f) : sProp 𝕄) = slotAny 0 c (b + 1) :=
  (show (slotAny 0 c (b + 1) : sProp 𝕄) = any_ (m0 ((b : ℕ) + 1) (lt9 b)) c from dif_pos (lt9 b)).symm
theorem mem1 (b : Fin 8) : (iprop(∃ f, (c : Thread nD τ).loc cc0_scratch1 ↦[I1 b]{fullShare} f) : sProp 𝕄) = slotAny 1 c (b + 1) :=
  (show (slotAny 1 c (b + 1) : sProp 𝕄) = any_ (m1 ((b : ℕ) + 1) (lt9 b)) c from dif_pos (lt9 b)).symm
theorem mem2 (b : Fin 7) : (iprop(∃ f, (c : Thread nD τ).loc cc0_scratch2 ↦[I2 b]{fullShare} f) : sProp 𝕄) = slotAny 2 c (b + 1) :=
  (show (slotAny 2 c (b + 1) : sProp 𝕄) = any_ (m2 ((b : ℕ) + 1) (lt8 b)) c from dif_pos (lt8 b)).symm
theorem mem3 (b : Fin 7) : (iprop(∃ f, (c : Thread nD τ).loc cc0_scratch3 ↦[I3 b]{fullShare} f) : sProp 𝕄) = slotAny 3 c (b + 1) :=
  (show (slotAny 3 c (b + 1) : sProp 𝕄) = any_ (m3 ((b : ℕ) + 1) (lt8 b)) c from dif_pos (lt8 b)).symm

/-- The four landing buffers are their slots, in any order, and the rest. -/
theorem cut (k8 : List (Fin 8)) (k7 : List (Fin 7)) (h8 : Finset.univ = k8.toFinset) (n8 : k8.Nodup) (h7 : Finset.univ = k7.toFinset) (n7 : k7.Nodup) :
    (iprop((∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f) ∗ (∃ f, (c : Thread nD τ).loc cc0_scratch3 ↦{fullShare} f)) : sProp 𝕄)
      ⊢ iprop((bigSepL (k8.map fun b : Fin 8 => ((0 : Fin 4), (b : ℕ) + 1)) (fun x => slotAny x.1 c x.2) ∗ bigSepL (k8.map fun b : Fin 8 => ((1 : Fin 4), (b : ℕ) + 1)) (fun x => slotAny x.1 c x.2)
        ∗ bigSepL (k7.map fun b : Fin 7 => ((2 : Fin 4), (b : ℕ) + 1)) (fun x => slotAny x.1 c x.2) ∗ bigSepL (k7.map fun b : Fin 7 => ((3 : Fin 4), (b : ℕ) + 1)) (fun x => slotAny x.1 c x.2)) ∗ rest c) := by
  unfold rest
  iintro ⟨H0, H1, H2, H3⟩
  ihave ⟨H0, R0⟩ := (fam_split_ex (ℓ := (c : Thread nD τ).loc cc0_scratch0) I0 I0_disj) $$ H0
  ihave ⟨H1, R1⟩ := (fam_split_ex (ℓ := (c : Thread nD τ).loc cc0_scratch1) I1 I1_disj) $$ H1
  ihave ⟨H2, R2⟩ := (fam_split_ex (ℓ := (c : Thread nD τ).loc cc0_scratch2) I2 I2_disj) $$ H2
  ihave ⟨H3, R3⟩ := (fam_split_ex (ℓ := (c : Thread nD τ).loc cc0_scratch3) I3 I3_disj) $$ H3
  isplitl [H0 H1 H2 H3]
  · isplitl [H0]; · iapply (Entails.of_eq (members (r := cc0_scratch0) c 0 8 I0 _ (fun b => (0, (b : ℕ) + 1)) k8 h8 n8 rfl (mem0 c))) $$ H0
    isplitl [H1]; · iapply (Entails.of_eq (members (r := cc0_scratch1) c 1 8 I1 _ (fun b => (1, (b : ℕ) + 1)) k8 h8 n8 rfl (mem1 c))) $$ H1
    isplitl [H2]; · iapply (Entails.of_eq (members (r := cc0_scratch2) c 2 7 I2 _ (fun b => (2, (b : ℕ) + 1)) k7 h7 n7 rfl (mem2 c))) $$ H2
    iapply (Entails.of_eq (members (r := cc0_scratch3) c 3 7 I3 _ (fun b => (3, (b : ℕ) + 1)) k7 h7 n7 rfl (mem3 c))) $$ H3
  isplitl [R0]; · iexact R0
  isplitl [R1]; · iexact R1
  isplitl [R2]; · iexact R2
  iexact R3

theorem uncut (k8 : List (Fin 8)) (k7 : List (Fin 7)) (h8 : Finset.univ = k8.toFinset) (n8 : k8.Nodup) (h7 : Finset.univ = k7.toFinset) (n7 : k7.Nodup) :
    (iprop((bigSepL (k8.map fun b : Fin 8 => ((0 : Fin 4), (b : ℕ) + 1)) (fun x => slotAny x.1 c x.2) ∗ bigSepL (k8.map fun b : Fin 8 => ((1 : Fin 4), (b : ℕ) + 1)) (fun x => slotAny x.1 c x.2)
        ∗ bigSepL (k7.map fun b : Fin 7 => ((2 : Fin 4), (b : ℕ) + 1)) (fun x => slotAny x.1 c x.2) ∗ bigSepL (k7.map fun b : Fin 7 => ((3 : Fin 4), (b : ℕ) + 1)) (fun x => slotAny x.1 c x.2)) ∗ rest c) : sProp 𝕄)
      ⊢ iprop((∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f) ∗ (∃ f, (c : Thread nD τ).loc cc0_scratch3 ↦{fullShare} f)) := by
  unfold rest
  iintro ⟨⟨H0, H1, H2, H3⟩, R0, R1, R2, R3⟩
  ihave H0 := (Entails.of_eq (members (r := cc0_scratch0) c 0 8 I0 _ (fun b => (0, (b : ℕ) + 1)) k8 h8 n8 rfl (mem0 (F := F) c)).symm) $$ H0
  ihave H1 := (Entails.of_eq (members (r := cc0_scratch1) c 1 8 I1 _ (fun b => (1, (b : ℕ) + 1)) k8 h8 n8 rfl (mem1 (F := F) c)).symm) $$ H1
  ihave H2 := (Entails.of_eq (members (r := cc0_scratch2) c 2 7 I2 _ (fun b => (2, (b : ℕ) + 1)) k7 h7 n7 rfl (mem2 (F := F) c)).symm) $$ H2
  ihave H3 := (Entails.of_eq (members (r := cc0_scratch3) c 3 7 I3 _ (fun b => (3, (b : ℕ) + 1)) k7 h7 n7 rfl (mem3 (F := F) c)).symm) $$ H3
  isplitl [H0 R0]
  · iapply (fam_join (ℓ := (c : Thread nD τ).loc cc0_scratch0) I0 I0_disj (fun _ => default))
    isplitl [H0] <;> iassumption
  isplitl [H1 R1]
  · iapply (fam_join (ℓ := (c : Thread nD τ).loc cc0_scratch1) I1 I1_disj (fun _ => default))
    isplitl [H1] <;> iassumption
  isplitl [H2 R2]
  · iapply (fam_join (ℓ := (c : Thread nD τ).loc cc0_scratch2) I2 I2_disj (fun _ => default))
    isplitl [H2] <;> iassumption
  iapply (fam_join (ℓ := (c : Thread nD τ).loc cc0_scratch3) I3 I3_disj (fun _ => default))
  isplitl [H3] <;> iassumption

/-! ## The staged weights' shares -/

/-- A staged weight whole, as the three shares the chains and the arithmetic read. -/
theorem thirds {S : Shape} (m : Memref sig .tc .vmem S .bf16) (x : S.Idx → Elt F .bf16) :
    (at_ m c fullShare x : sProp 𝕄) ⊢ iprop(at_ m c fullShare.left x ∗ at_ m c fullShare.right.left x ∗ at_ m c fullShare.right.right x) := by
  unfold at_
  iintro H
  ihave ⟨Ha, Hb⟩ := (pointsTo_share (q := fullShare) (q₁ := fullShare.left) (q₂ := fullShare.right) (by rw [PosShare.left_op_right]; exact Part.mem_some _)).1 $$ H
  ihave ⟨Hb, Hc⟩ := (pointsTo_share (q := fullShare.right) (q₁ := fullShare.right.left) (q₂ := fullShare.right.right) (by rw [PosShare.left_op_right]; exact Part.mem_some _)).1 $$ Hb
  isplitl [Ha]; · iexact Ha
  isplitl [Hb] <;> iassumption
theorem unthirds {S : Shape} (m : Memref sig .tc .vmem S .bf16) (x : S.Idx → Elt F .bf16) :
    (iprop(at_ m c fullShare.left x ∗ at_ m c fullShare.right.left x ∗ at_ m c fullShare.right.right x) : sProp 𝕄) ⊢ at_ m c fullShare x := by
  unfold at_
  iintro ⟨Ha, Hb, Hc⟩
  iapply (pointsTo_share (q := fullShare) (q₁ := fullShare.left) (q₂ := fullShare.right) (by rw [PosShare.left_op_right]; exact Part.mem_some _)).2
  isplitl [Ha]; · iexact Ha
  iapply (pointsTo_share (q := fullShare.right) (q₁ := fullShare.right.left) (q₂ := fullShare.right.right) (by rw [PosShare.left_op_right]; exact Part.mem_some _)).2
  isplitl [Hb] <;> iassumption

end Cert.KernelIdeal.Ring
-- ==== Proof.Run0.lean ====
/-
  Stretch 0 of the body's run at device `c`.
-/
module

public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

/-- The run's claim at device `c`: from its buffers, its duties and its credit, the kernel's body. -/
def RunOf (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) : Prop :=
  prot B κ ⊢ iprop(pt c (Memref.whole cc0_stg0_0) X0 -∗ pt c (Memref.whole cc0_stg3_0) Kc -∗ pt c (Memref.whole cc0_stg4_0) Vc -∗ pt c (Memref.whole cc0_stg5_0) O0 -∗ pt c (Memref.whole cc0_scratch4) C0 -∗ pt c (Memref.whole cc0_scratch5) A0 -∗ pt c (Memref.whole cc0_scratch6) N0
    -∗ srcAt B 0 c 1 -∗ srcAt B 1 c 1 -∗ srcAt B 2 c 1 -∗ srcAt B 3 c 1
    -∗ at_ mWq c fullShare.right.right (B.wq c) -∗ at_ mWo c fullShare.right.right (B.wo c)
    -∗ owesK c 0
    -∗ dutyTok ER ((left c : Thread nD τ), bS) 0 true -∗ dutyTok ER ((right c : Thread nD τ), bS) 0 false
    -∗ reached ER ((left c : Thread nD τ), bS) 0 -∗ reached ER ((right c : Thread nD τ), bS) 0
    -∗ barP (left c) true -∗ barP (right c) false
    -∗ atPos ER ((c : Thread nD τ), bS) 0 ∅ 0 -∗ cred (tallyAt ((c : Thread nD τ), bS) 1 2)
    -∗ kit c 0 1 8 -∗ kit c 1 1 8 -∗ kit c 2 1 7 -∗ kit c 3 1 7
    -∗ (zR c 0 0 ∗ zR c 1 0 ∗ zR c 2 0 ∗ zR c 3 0) -∗ (bk c 0 0 ∗ bk c 1 0 ∗ bk c 2 0 ∗ bk c 3 0) -∗ K
    -∗ wp frame (wpE (defs₀ (F := F)) 𝒱₀ (c : Thread nD τ) none) Set.univ (bodyC (F := F)) Q)

/-- A buffer's contents may be forgotten. -/
theorem pt_any {S : Shape} {e : EltTy} (m : Memref sig .tc .vmem S e) (f : Buf (Elt F) (m.view.loc (c : Thread nD τ))) :
    (m.view.loc (c : Thread nD τ) ↦[Finset.univ]{fullShare} f : sProp 𝕄) ⊢ iprop(∃ g, m.view.loc (c : Thread nD τ) ↦[Finset.univ]{fullShare} g) := by
  iintro H; iexists f; iexact H

set_option maxHeartbeats 0 in
/-- Stretch 0 of the run. -/
def s0 (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' (G : Prop), G → RunOf B κ c Q K X0 Kc Vc O0 C0 A0 N0 := by
  sl_stretch
  unfold RunOf bodyC pt
  iintro #HP HX HK HV HO HC HA HN HS0 HS1 HS2 HS3 HWq HWo Hw Hbl Hbr Hrl Hrr Hl Hr Hbp Hbc HK0 HK1 HK2 HK3 Hy Hk HJ
  icases Hy with ⟨Hy0, Hy1, Hy2, Hy3⟩
  icases Hk with ⟨Hk0, Hk1, Hk2, Hk3⟩
  sl_exec_parts
  iapply (signal B κ c ⟨k0_dev1 c, k0_dev1_lt c⟩ (left c) (Fin.ext (k0_dev1_eq c)) true 0 (OW_bar0 c)) $$ HP Hbl Hrl Hl Hw
  iintro Hw
  sl_exec_parts
  iapply (signal B κ c ⟨k0_dev2 c, k0_dev2_lt c⟩ (right c) (Fin.ext (k0_dev2_eq c)) false 1 (OW_bar1 c)) $$ HP Hbr Hrr Hr Hw
  iintro Hw
  sl_exec_parts
  iapply (waitB B κ c 2 (by decide)) $$ HP Hbp Hbc Hw
  iintro ⟨Hl, Hr, Hbp, Hw⟩
  ihave Hl := (barP_true c) $$ Hl
  ihave Hr := (barP_false c) $$ Hr
  icases Hl with ⟨HL0, HL1⟩
  icases Hr with ⟨HL2, HL3⟩
  sl_exec_parts
  iapply (sendK B κ c 0 1 7 (by decide) (by decide) mWq (m0 1 (by decide)) fullShare.left (B.wq (orig 0 c 0)) 2 rfl rfl (fun _ => rfl) (fun _ => rfl) rfl ⟨k0_dev3 c, k0_dev3_lt c⟩ (Fin.ext (k0_dev3_eq c)) rfl rfl) $$ HP HS0 HK0 HL0 Hw
  iintro ⟨Ha0, Hb0, HK0, HL0, Hw⟩
  sl_exec_parts
  iapply (sendK B κ c 1 1 7 (by decide) (by decide) mWo (m1 1 (by decide)) fullShare.left (B.wo (orig 1 c 0)) 3 rfl rfl (fun _ => rfl) (fun _ => rfl) rfl ⟨k0_dev4 c, k0_dev4_lt c⟩ (Fin.ext (k0_dev4_eq c)) rfl rfl) $$ HP HS1 HK1 HL1 Hw
  iintro ⟨Ha1, Hb1, HK1, HL1, Hw⟩
  sl_exec_parts
  iapply (sendK B κ c 2 1 6 (by decide) (by decide) mWq (m2 1 (by decide)) fullShare.right.left (B.wq (orig 2 c 0)) 4 rfl rfl (fun _ => rfl) (fun _ => rfl) rfl ⟨k0_dev5 c, k0_dev5_lt c⟩ (Fin.ext (k0_dev5_eq c)) rfl rfl) $$ HP HS2 HK2 HL2 Hw
  iintro ⟨Ha2, Hb2, HK2, HL2, Hw⟩
  sl_exec_parts
  iapply (sendK B κ c 3 1 6 (by decide) (by decide) mWo (m3 1 (by decide)) fullShare.right.left (B.wo (orig 3 c 0)) 5 rfl rfl (fun _ => rfl) (fun _ => rfl) rfl ⟨k0_dev6 c, k0_dev6_lt c⟩ (Fin.ext (k0_dev6_eq c)) rfl rfl) $$ HP HS3 HK3 HL3 Hw
  iintro ⟨Ha3, Hb3, HK3, HL3, Hw⟩
  ihave HWq := (show at_ mWq c fullShare.right.right (B.wq c) ⊢ (mWq.view.loc (c : Thread nD τ) ↦[mWq.view.set]{fullShare.right.right} mWq.view.rep (B.wq c) : sProp 𝕄) from .rfl) $$ HWq
  ihave HWo := (show at_ mWo c fullShare.right.right (B.wo c) ⊢ (mWo.view.loc (c : Thread nD τ) ↦[mWo.view.set]{fullShare.right.right} mWo.view.rep (B.wo c) : sProp 𝕄) from .rfl) $$ HWo
  sl_exec_parts
  ihave HC := (pt_any c (Memref.whole cc0_scratch4) _) $$ HC
  icases HC with ⟨%C0, HC⟩
  sl_seam

end Cert.KernelIdeal.Ring
-- ==== Proof.Run1.lean ====
/-
  Stretch 1 of the body's run at device `c`.
-/
module

public import proofs.«01_k».proof.Proof.Run0

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

set_option maxHeartbeats 0 in
/-- Stretch 1 of the run. -/
def s1 (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' (G : Prop), G → (s0 B κ c Q K X0 Kc Vc O0 C0 A0 N0).1 := by
  sl_stretch
  sl_resume
  iapply (waitS1 B κ c 0 (by decide) 6 (by decide) (m0 1 (by decide)) mWq rfl rfl) $$ HP Ha0 Hw
  iintro ⟨HS0, Hz0, Hw⟩
  sl_exec_parts
  iapply (waitR2 B κ c 0 0 (by decide) 6 (by decide) mWq (m0 1 (by decide)) rfl rfl) $$ HP Hb0 Hw Hy0
  iintro ⟨Hq0, Hp0, Hy0, Hw⟩
  sl_exec_parts
  iapply (waitS1 B κ c 1 (by decide) 6 (by decide) (m1 1 (by decide)) mWo rfl rfl) $$ HP Ha1 Hw
  iintro ⟨HS1, Hz1, Hw⟩
  sl_exec_parts
  iapply (waitR2 B κ c 1 0 (by decide) 6 (by decide) mWo (m1 1 (by decide)) rfl rfl) $$ HP Hb1 Hw Hy1
  iintro ⟨Hq1, Hp1, Hy1, Hw⟩
  sl_exec_parts
  iapply (waitS1 B κ c 2 (by decide) 6 (by decide) (m2 1 (by decide)) mWq rfl rfl) $$ HP Ha2 Hw
  iintro ⟨HS2, Hz2, Hw⟩
  sl_exec_parts
  iapply (waitR2 B κ c 2 0 (by decide) 6 (by decide) mWq (m2 1 (by decide)) rfl rfl) $$ HP Hb2 Hw Hy2
  iintro ⟨Hq2, Hp2, Hy2, Hw⟩
  sl_exec_parts
  iapply (waitS1 B κ c 3 (by decide) 6 (by decide) (m3 1 (by decide)) mWo rfl rfl) $$ HP Ha3 Hw
  iintro ⟨HS3, Hz3, Hw⟩
  sl_exec_parts
  iapply (waitR2 B κ c 3 0 (by decide) 6 (by decide) mWo (m3 1 (by decide)) rfl rfl) $$ HP Hb3 Hw Hy3
  iintro ⟨Hq3, Hp3, Hy3, Hw⟩
  sl_exec_parts
  iapply (sendK B κ c 0 2 6 (by decide) (by decide) (m0 1 (by decide)) (m0 2 (by decide)) fullShare.left (B.wq (orig 0 c 1)) 6 rfl rfl (fun _ => rfl) (fun _ => rfl) rfl ⟨k0_dev7 c, k0_dev7_lt c⟩ (Fin.ext (k0_dev7_eq c)) rfl rfl) $$ HP Hq0 HK0 HL0 Hw
  iintro ⟨Ha0, Hb0, HK0, HL0, Hw⟩
  sl_exec_parts
  iapply (sendK B κ c 1 2 6 (by decide) (by decide) (m1 1 (by decide)) (m1 2 (by decide)) fullShare.left (B.wo (orig 1 c 1)) 7 rfl rfl (fun _ => rfl) (fun _ => rfl) rfl ⟨k0_dev8 c, k0_dev8_lt c⟩ (Fin.ext (k0_dev8_eq c)) rfl rfl) $$ HP Hq1 HK1 HL1 Hw
  iintro ⟨Ha1, Hb1, HK1, HL1, Hw⟩
  sl_exec_parts
  iapply (sendK B κ c 2 2 5 (by decide) (by decide) (m2 1 (by decide)) (m2 2 (by decide)) fullShare.left (B.wq (orig 2 c 1)) 8 rfl rfl (fun _ => rfl) (fun _ => rfl) rfl ⟨k0_dev9 c, k0_dev9_lt c⟩ (Fin.ext (k0_dev9_eq c)) rfl rfl) $$ HP Hq2 HK2 HL2 Hw
  iintro ⟨Ha2, Hb2, HK2, HL2, Hw⟩
  sl_exec_parts
  iapply (sendK B κ c 3 2 5 (by decide) (by decide) (m3 1 (by decide)) (m3 2 (by decide)) fullShare.left (B.wo (orig 3 c 1)) 9 rfl rfl (fun _ => rfl) (fun _ => rfl) rfl ⟨k0_dev10 c, k0_dev10_lt c⟩ (Fin.ext (k0_dev10_eq c)) rfl rfl) $$ HP Hq3 HK3 HL3 Hw
  iintro ⟨Ha3, Hb3, HK3, HL3, Hw⟩
  ihave Hp0 := (show slotAt B 0 c 1 fullShare.right (orig 0 c 1) ⊢ ((m0 1 (by decide)).view.loc (c : Thread nD τ) ↦[(m0 1 (by decide)).view.set]{fullShare.right} (m0 1 (by decide)).view.rep (B.wq (orig 0 c 1)) : sProp 𝕄) from .rfl) $$ Hp0
  ihave Hp1 := (show slotAt B 1 c 1 fullShare.right (orig 1 c 1) ⊢ ((m1 1 (by decide)).view.loc (c : Thread nD τ) ↦[(m1 1 (by decide)).view.set]{fullShare.right} (m1 1 (by decide)).view.rep (B.wo (orig 1 c 1)) : sProp 𝕄) from .rfl) $$ Hp1
  ihave Hp2 := (show slotAt B 2 c 1 fullShare.right (orig 2 c 1) ⊢ ((m2 1 (by decide)).view.loc (c : Thread nD τ) ↦[(m2 1 (by decide)).view.set]{fullShare.right} (m2 1 (by decide)).view.rep (B.wq (orig 2 c 1)) : sProp 𝕄) from .rfl) $$ Hp2
  ihave Hp3 := (show slotAt B 3 c 1 fullShare.right (orig 3 c 1) ⊢ ((m3 1 (by decide)).view.loc (c : Thread nD τ) ↦[(m3 1 (by decide)).view.set]{fullShare.right} (m3 1 (by decide)).view.rep (B.wo (orig 3 c 1)) : sProp 𝕄) from .rfl) $$ Hp3
  sl_exec_parts
  ihave HC := (pt_any c (Memref.whole cc0_scratch4) _) $$ HC
  icases HC with ⟨%C0, HC⟩
  ihave Hp0 := (show ((m0 1 (by decide)).view.loc (c : Thread nD τ) ↦[(m0 1 (by decide)).view.set]{fullShare.right} (m0 1 (by decide)).view.rep (B.wq (orig 0 c 1)) : sProp 𝕄) ⊢ slotAt B 0 c 1 fullShare.right (orig 0 c 1) from .rfl) $$ Hp0
  ihave Hp1 := (show ((m1 1 (by decide)).view.loc (c : Thread nD τ) ↦[(m1 1 (by decide)).view.set]{fullShare.right} (m1 1 (by decide)).view.rep (B.wo (orig 1 c 1)) : sProp 𝕄) ⊢ slotAt B 1 c 1 fullShare.right (orig 1 c 1) from .rfl) $$ Hp1
  ihave Hp2 := (show ((m2 1 (by decide)).view.loc (c : Thread nD τ) ↦[(m2 1 (by decide)).view.set]{fullShare.right} (m2 1 (by decide)).view.rep (B.wq (orig 2 c 1)) : sProp 𝕄) ⊢ slotAt B 2 c 1 fullShare.right (orig 2 c 1) from .rfl) $$ Hp2
  ihave Hp3 := (show ((m3 1 (by decide)).view.loc (c : Thread nD τ) ↦[(m3 1 (by decide)).view.set]{fullShare.right} (m3 1 (by decide)).view.rep (B.wo (orig 3 c 1)) : sProp 𝕄) ⊢ slotAt B 3 c 1 fullShare.right (orig 3 c 1) from .rfl) $$ Hp3
  sl_seam

end Cert.KernelIdeal.Ring
-- ==== Proof.Run2.lean ====
/-
  Stretch 2 of the body's run at device `c`.
-/
module

public import proofs.«01_k».proof.Proof.Run1

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

set_option maxHeartbeats 0 in
/-- Stretch 2 of the run. -/
def s2 (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' (G : Prop), G → (s1 B κ c Q K X0 Kc Vc O0 C0 A0 N0).1 := by
  sl_stretch
  sl_resume
  iapply (waitS2 B κ c 0 0 (by decide) 10 (by decide) (m0 2 (by decide)) (m0 1 (by decide)) rfl rfl) $$ HP Ha0 Hw Hp0 Hk0 Hz0
  iintro ⟨Hk0, Hz0, Hw⟩
  sl_exec_parts
  iapply (waitR2 B κ c 0 1 (by decide) 10 (by decide) (m0 1 (by decide)) (m0 2 (by decide)) rfl rfl) $$ HP Hb0 Hw Hy0
  iintro ⟨Hq0, Hp0, Hy0, Hw⟩
  sl_exec_parts
  iapply (waitS2 B κ c 1 0 (by decide) 10 (by decide) (m1 2 (by decide)) (m1 1 (by decide)) rfl rfl) $$ HP Ha1 Hw Hp1 Hk1 Hz1
  iintro ⟨Hk1, Hz1, Hw⟩
  sl_exec_parts
  iapply (waitR2 B κ c 1 1 (by decide) 10 (by decide) (m1 1 (by decide)) (m1 2 (by decide)) rfl rfl) $$ HP Hb1 Hw Hy1
  iintro ⟨Hq1, Hp1, Hy1, Hw⟩
  sl_exec_parts
  iapply (waitS2 B κ c 2 0 (by decide) 10 (by decide) (m2 2 (by decide)) (m2 1 (by decide)) rfl rfl) $$ HP Ha2 Hw Hp2 Hk2 Hz2
  iintro ⟨Hk2, Hz2, Hw⟩
  sl_exec_parts
  iapply (waitR2 B κ c 2 1 (by decide) 10 (by decide) (m2 1 (by decide)) (m2 2 (by decide)) rfl rfl) $$ HP Hb2 Hw Hy2
  iintro ⟨Hq2, Hp2, Hy2, Hw⟩
  sl_exec_parts
  iapply (waitS2 B κ c 3 0 (by decide) 10 (by decide) (m3 2 (by decide)) (m3 1 (by decide)) rfl rfl) $$ HP Ha3 Hw Hp3 Hk3 Hz3
  iintro ⟨Hk3, Hz3, Hw⟩
  sl_exec_parts
  iapply (waitR2 B κ c 3 1 (by decide) 10 (by decide) (m3 1 (by decide)) (m3 2 (by decide)) rfl rfl) $$ HP Hb3 Hw Hy3
  iintro ⟨Hq3, Hp3, Hy3, Hw⟩
  sl_exec_parts
  iapply (sendK B κ c 0 3 5 (by decide) (by decide) (m0 2 (by decide)) (m0 3 (by decide)) fullShare.left (B.wq (orig 0 c 2)) 10 rfl rfl (fun _ => rfl) (fun _ => rfl) rfl ⟨k0_dev11 c, k0_dev11_lt c⟩ (Fin.ext (k0_dev11_eq c)) rfl rfl) $$ HP Hq0 HK0 HL0 Hw
  iintro ⟨Ha0, Hb0, HK0, HL0, Hw⟩
  sl_exec_parts
  iapply (sendK B κ c 1 3 5 (by decide) (by decide) (m1 2 (by decide)) (m1 3 (by decide)) fullShare.left (B.wo (orig 1 c 2)) 11 rfl rfl (fun _ => rfl) (fun _ => rfl) rfl ⟨k0_dev12 c, k0_dev12_lt c⟩ (Fin.ext (k0_dev12_eq c)) rfl rfl) $$ HP Hq1 HK1 HL1 Hw
  iintro ⟨Ha1, Hb1, HK1, HL1, Hw⟩
  sl_exec_parts
  iapply (sendK B κ c 2 3 4 (by decide) (by decide) (m2 2 (by decide)) (m2 3 (by decide)) fullShare.left (B.wq (orig 2 c 2)) 12 rfl rfl (fun _ => rfl) (fun _ => rfl) rfl ⟨k0_dev13 c, k0_dev13_lt c⟩ (Fin.ext (k0_dev13_eq c)) rfl rfl) $$ HP Hq2 HK2 HL2 Hw
  iintro ⟨Ha2, Hb2, HK2, HL2, Hw⟩
  sl_exec_parts
  iapply (sendK B κ c 3 3 4 (by decide) (by decide) (m3 2 (by decide)) (m3 3 (by decide)) fullShare.left (B.wo (orig 3 c 2)) 13 rfl rfl (fun _ => rfl) (fun _ => rfl) rfl ⟨k0_dev14 c, k0_dev14_lt c⟩ (Fin.ext (k0_dev14_eq c)) rfl rfl) $$ HP Hq3 HK3 HL3 Hw
  iintro ⟨Ha3, Hb3, HK3, HL3, Hw⟩
  ihave Hp0 := (show slotAt B 0 c 2 fullShare.right (orig 0 c 2) ⊢ ((m0 2 (by decide)).view.loc (c : Thread nD τ) ↦[(m0 2 (by decide)).view.set]{fullShare.right} (m0 2 (by decide)).view.rep (B.wq (orig 0 c 2)) : sProp 𝕄) from .rfl) $$ Hp0
  ihave Hp1 := (show slotAt B 1 c 2 fullShare.right (orig 1 c 2) ⊢ ((m1 2 (by decide)).view.loc (c : Thread nD τ) ↦[(m1 2 (by decide)).view.set]{fullShare.right} (m1 2 (by decide)).view.rep (B.wo (orig 1 c 2)) : sProp 𝕄) from .rfl) $$ Hp1
  ihave Hp2 := (show slotAt B 2 c 2 fullShare.right (orig 2 c 2) ⊢ ((m2 2 (by decide)).view.loc (c : Thread nD τ) ↦[(m2 2 (by decide)).view.set]{fullShare.right} (m2 2 (by decide)).view.rep (B.wq (orig 2 c 2)) : sProp 𝕄) from .rfl) $$ Hp2
  ihave Hp3 := (show slotAt B 3 c 2 fullShare.right (orig 3 c 2) ⊢ ((m3 2 (by decide)).view.loc (c : Thread nD τ) ↦[(m3 2 (by decide)).view.set]{fullShare.right} (m3 2 (by decide)).view.rep (B.wo (orig 3 c 2)) : sProp 𝕄) from .rfl) $$ Hp3
  sl_exec_parts
  ihave HC := (pt_any c (Memref.whole cc0_scratch4) _) $$ HC
  icases HC with ⟨%C0, HC⟩
  ihave Hp0 := (show ((m0 2 (by decide)).view.loc (c : Thread nD τ) ↦[(m0 2 (by decide)).view.set]{fullShare.right} (m0 2 (by decide)).view.rep (B.wq (orig 0 c 2)) : sProp 𝕄) ⊢ slotAt B 0 c 2 fullShare.right (orig 0 c 2) from .rfl) $$ Hp0
  ihave Hp1 := (show ((m1 2 (by decide)).view.loc (c : Thread nD τ) ↦[(m1 2 (by decide)).view.set]{fullShare.right} (m1 2 (by decide)).view.rep (B.wo (orig 1 c 2)) : sProp 𝕄) ⊢ slotAt B 1 c 2 fullShare.right (orig 1 c 2) from .rfl) $$ Hp1
  ihave Hp2 := (show ((m2 2 (by decide)).view.loc (c : Thread nD τ) ↦[(m2 2 (by decide)).view.set]{fullShare.right} (m2 2 (by decide)).view.rep (B.wq (orig 2 c 2)) : sProp 𝕄) ⊢ slotAt B 2 c 2 fullShare.right (orig 2 c 2) from .rfl) $$ Hp2
  ihave Hp3 := (show ((m3 2 (by decide)).view.loc (c : Thread nD τ) ↦[(m3 2 (by decide)).view.set]{fullShare.right} (m3 2 (by decide)).view.rep (B.wo (orig 3 c 2)) : sProp 𝕄) ⊢ slotAt B 3 c 2 fullShare.right (orig 3 c 2) from .rfl) $$ Hp3
  sl_seam

end Cert.KernelIdeal.Ring
-- ==== Proof.Run3.lean ====
/-
  Stretch 3 of the body's run at device `c`.
-/
module

public import proofs.«01_k».proof.Proof.Run2

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

set_option maxHeartbeats 0 in
/-- Stretch 3 of the run. -/
def s3 (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' (G : Prop), G → (s2 B κ c Q K X0 Kc Vc O0 C0 A0 N0).1 := by
  sl_stretch
  sl_resume
  iapply (waitS2 B κ c 0 1 (by decide) 14 (by decide) (m0 3 (by decide)) (m0 2 (by decide)) rfl rfl) $$ HP Ha0 Hw Hp0 Hk0 Hz0
  iintro ⟨Hk0, Hz0, Hw⟩
  sl_exec_parts
  iapply (waitR2 B κ c 0 2 (by decide) 14 (by decide) (m0 2 (by decide)) (m0 3 (by decide)) rfl rfl) $$ HP Hb0 Hw Hy0
  iintro ⟨Hq0, Hp0, Hy0, Hw⟩
  sl_exec_parts
  iapply (waitS2 B κ c 1 1 (by decide) 14 (by decide) (m1 3 (by decide)) (m1 2 (by decide)) rfl rfl) $$ HP Ha1 Hw Hp1 Hk1 Hz1
  iintro ⟨Hk1, Hz1, Hw⟩
  sl_exec_parts
  iapply (waitR2 B κ c 1 2 (by decide) 14 (by decide) (m1 2 (by decide)) (m1 3 (by decide)) rfl rfl) $$ HP Hb1 Hw Hy1
  iintro ⟨Hq1, Hp1, Hy1, Hw⟩
  sl_exec_parts
  iapply (waitS2 B κ c 2 1 (by decide) 14 (by decide) (m2 3 (by decide)) (m2 2 (by decide)) rfl rfl) $$ HP Ha2 Hw Hp2 Hk2 Hz2
  iintro ⟨Hk2, Hz2, Hw⟩
  sl_exec_parts
  iapply (waitR2 B κ c 2 2 (by decide) 14 (by decide) (m2 2 (by decide)) (m2 3 (by decide)) rfl rfl) $$ HP Hb2 Hw Hy2
  iintro ⟨Hq2, Hp2, Hy2, Hw⟩
  sl_exec_parts
  iapply (waitS2 B κ c 3 1 (by decide) 14 (by decide) (m3 3 (by decide)) (m3 2 (by decide)) rfl rfl) $$ HP Ha3 Hw Hp3 Hk3 Hz3
  iintro ⟨Hk3, Hz3, Hw⟩
  sl_exec_parts
  iapply (waitR2 B κ c 3 2 (by decide) 14 (by decide) (m3 2 (by decide)) (m3 3 (by decide)) rfl rfl) $$ HP Hb3 Hw Hy3
  iintro ⟨Hq3, Hp3, Hy3, Hw⟩
  sl_exec_parts
  iapply (sendK B κ c 0 4 4 (by decide) (by decide) (m0 3 (by decide)) (m0 4 (by decide)) fullShare.left (B.wq (orig 0 c 3)) 14 rfl rfl (fun _ => rfl) (fun _ => rfl) rfl ⟨k0_dev15 c, k0_dev15_lt c⟩ (Fin.ext (k0_dev15_eq c)) rfl rfl) $$ HP Hq0 HK0 HL0 Hw
  iintro ⟨Ha0, Hb0, HK0, HL0, Hw⟩
  sl_exec_parts
  iapply (sendK B κ c 1 4 4 (by decide) (by decide) (m1 3 (by decide)) (m1 4 (by decide)) fullShare.left (B.wo (orig 1 c 3)) 15 rfl rfl (fun _ => rfl) (fun _ => rfl) rfl ⟨k0_dev16 c, k0_dev16_lt c⟩ (Fin.ext (k0_dev16_eq c)) rfl rfl) $$ HP Hq1 HK1 HL1 Hw
  iintro ⟨Ha1, Hb1, HK1, HL1, Hw⟩
  sl_exec_parts
  iapply (sendK B κ c 2 4 3 (by decide) (by decide) (m2 3 (by decide)) (m2 4 (by decide)) fullShare.left (B.wq (orig 2 c 3)) 16 rfl rfl (fun _ => rfl) (fun _ => rfl) rfl ⟨k0_dev17 c, k0_dev17_lt c⟩ (Fin.ext (k0_dev17_eq c)) rfl rfl) $$ HP Hq2 HK2 HL2 Hw
  iintro ⟨Ha2, Hb2, HK2, HL2, Hw⟩
  sl_exec_parts
  iapply (sendK B κ c 3 4 3 (by decide) (by decide) (m3 3 (by decide)) (m3 4 (by decide)) fullShare.left (B.wo (orig 3 c 3)) 17 rfl rfl (fun _ => rfl) (fun _ => rfl) rfl ⟨k0_dev18 c, k0_dev18_lt c⟩ (Fin.ext (k0_dev18_eq c)) rfl rfl) $$ HP Hq3 HK3 HL3 Hw
  iintro ⟨Ha3, Hb3, HK3, HL3, Hw⟩
  ihave Hp0 := (show slotAt B 0 c 3 fullShare.right (orig 0 c 3) ⊢ ((m0 3 (by decide)).view.loc (c : Thread nD τ) ↦[(m0 3 (by decide)).view.set]{fullShare.right} (m0 3 (by decide)).view.rep (B.wq (orig 0 c 3)) : sProp 𝕄) from .rfl) $$ Hp0
  ihave Hp1 := (show slotAt B 1 c 3 fullShare.right (orig 1 c 3) ⊢ ((m1 3 (by decide)).view.loc (c : Thread nD τ) ↦[(m1 3 (by decide)).view.set]{fullShare.right} (m1 3 (by decide)).view.rep (B.wo (orig 1 c 3)) : sProp 𝕄) from .rfl) $$ Hp1
  ihave Hp2 := (show slotAt B 2 c 3 fullShare.right (orig 2 c 3) ⊢ ((m2 3 (by decide)).view.loc (c : Thread nD τ) ↦[(m2 3 (by decide)).view.set]{fullShare.right} (m2 3 (by decide)).view.rep (B.wq (orig 2 c 3)) : sProp 𝕄) from .rfl) $$ Hp2
  ihave Hp3 := (show slotAt B 3 c 3 fullShare.right (orig 3 c 3) ⊢ ((m3 3 (by decide)).view.loc (c : Thread nD τ) ↦[(m3 3 (by decide)).view.set]{fullShare.right} (m3 3 (by decide)).view.rep (B.wo (orig 3 c 3)) : sProp 𝕄) from .rfl) $$ Hp3
  sl_exec_parts
  ihave HC := (pt_any c (Memref.whole cc0_scratch4) _) $$ HC
  icases HC with ⟨%C0, HC⟩
  ihave Hp0 := (show ((m0 3 (by decide)).view.loc (c : Thread nD τ) ↦[(m0 3 (by decide)).view.set]{fullShare.right} (m0 3 (by decide)).view.rep (B.wq (orig 0 c 3)) : sProp 𝕄) ⊢ slotAt B 0 c 3 fullShare.right (orig 0 c 3) from .rfl) $$ Hp0
  ihave Hp1 := (show ((m1 3 (by decide)).view.loc (c : Thread nD τ) ↦[(m1 3 (by decide)).view.set]{fullShare.right} (m1 3 (by decide)).view.rep (B.wo (orig 1 c 3)) : sProp 𝕄) ⊢ slotAt B 1 c 3 fullShare.right (orig 1 c 3) from .rfl) $$ Hp1
  ihave Hp2 := (show ((m2 3 (by decide)).view.loc (c : Thread nD τ) ↦[(m2 3 (by decide)).view.set]{fullShare.right} (m2 3 (by decide)).view.rep (B.wq (orig 2 c 3)) : sProp 𝕄) ⊢ slotAt B 2 c 3 fullShare.right (orig 2 c 3) from .rfl) $$ Hp2
  ihave Hp3 := (show ((m3 3 (by decide)).view.loc (c : Thread nD τ) ↦[(m3 3 (by decide)).view.set]{fullShare.right} (m3 3 (by decide)).view.rep (B.wo (orig 3 c 3)) : sProp 𝕄) ⊢ slotAt B 3 c 3 fullShare.right (orig 3 c 3) from .rfl) $$ Hp3
  sl_seam

end Cert.KernelIdeal.Ring
-- ==== Proof.Run4.lean ====
/-
  Stretch 4 of the body's run at device `c`.
-/
module

public import proofs.«01_k».proof.Proof.Run3

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

set_option maxHeartbeats 0 in
/-- Stretch 4 of the run. -/
def s4 (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' (G : Prop), G → (s3 B κ c Q K X0 Kc Vc O0 C0 A0 N0).1 := by
  sl_stretch
  sl_resume
  iapply (waitS2 B κ c 0 2 (by decide) 18 (by decide) (m0 4 (by decide)) (m0 3 (by decide)) rfl rfl) $$ HP Ha0 Hw Hp0 Hk0 Hz0
  iintro ⟨Hk0, Hz0, Hw⟩
  sl_exec_parts
  iapply (waitR2 B κ c 0 3 (by decide) 18 (by decide) (m0 3 (by decide)) (m0 4 (by decide)) rfl rfl) $$ HP Hb0 Hw Hy0
  iintro ⟨Hq0, Hp0, Hy0, Hw⟩
  sl_exec_parts
  iapply (waitS2 B κ c 1 2 (by decide) 18 (by decide) (m1 4 (by decide)) (m1 3 (by decide)) rfl rfl) $$ HP Ha1 Hw Hp1 Hk1 Hz1
  iintro ⟨Hk1, Hz1, Hw⟩
  sl_exec_parts
  iapply (waitR2 B κ c 1 3 (by decide) 18 (by decide) (m1 3 (by decide)) (m1 4 (by decide)) rfl rfl) $$ HP Hb1 Hw Hy1
  iintro ⟨Hq1, Hp1, Hy1, Hw⟩
  sl_exec_parts
  iapply (waitS2 B κ c 2 2 (by decide) 18 (by decide) (m2 4 (by decide)) (m2 3 (by decide)) rfl rfl) $$ HP Ha2 Hw Hp2 Hk2 Hz2
  iintro ⟨Hk2, Hz2, Hw⟩
  sl_exec_parts
  iapply (waitR2 B κ c 2 3 (by decide) 18 (by decide) (m2 3 (by decide)) (m2 4 (by decide)) rfl rfl) $$ HP Hb2 Hw Hy2
  iintro ⟨Hq2, Hp2, Hy2, Hw⟩
  sl_exec_parts
  iapply (waitS2 B κ c 3 2 (by decide) 18 (by decide) (m3 4 (by decide)) (m3 3 (by decide)) rfl rfl) $$ HP Ha3 Hw Hp3 Hk3 Hz3
  iintro ⟨Hk3, Hz3, Hw⟩
  sl_exec_parts
  iapply (waitR2 B κ c 3 3 (by decide) 18 (by decide) (m3 3 (by decide)) (m3 4 (by decide)) rfl rfl) $$ HP Hb3 Hw Hy3
  iintro ⟨Hq3, Hp3, Hy3, Hw⟩
  sl_exec_parts
  iapply (sendK B κ c 0 5 3 (by decide) (by decide) (m0 4 (by decide)) (m0 5 (by decide)) fullShare.left (B.wq (orig 0 c 4)) 18 rfl rfl (fun _ => rfl) (fun _ => rfl) rfl ⟨k0_dev19 c, k0_dev19_lt c⟩ (Fin.ext (k0_dev19_eq c)) rfl rfl) $$ HP Hq0 HK0 HL0 Hw
  iintro ⟨Ha0, Hb0, HK0, HL0, Hw⟩
  sl_exec_parts
  iapply (sendK B κ c 1 5 3 (by decide) (by decide) (m1 4 (by decide)) (m1 5 (by decide)) fullShare.left (B.wo (orig 1 c 4)) 19 rfl rfl (fun _ => rfl) (fun _ => rfl) rfl ⟨k0_dev20 c, k0_dev20_lt c⟩ (Fin.ext (k0_dev20_eq c)) rfl rfl) $$ HP Hq1 HK1 HL1 Hw
  iintro ⟨Ha1, Hb1, HK1, HL1, Hw⟩
  sl_exec_parts
  iapply (sendK B κ c 2 5 2 (by decide) (by decide) (m2 4 (by decide)) (m2 5 (by decide)) fullShare.left (B.wq (orig 2 c 4)) 20 rfl rfl (fun _ => rfl) (fun _ => rfl) rfl ⟨k0_dev21 c, k0_dev21_lt c⟩ (Fin.ext (k0_dev21_eq c)) rfl rfl) $$ HP Hq2 HK2 HL2 Hw
  iintro ⟨Ha2, Hb2, HK2, HL2, Hw⟩
  sl_exec_parts
  iapply (sendK B κ c 3 5 2 (by decide) (by decide) (m3 4 (by decide)) (m3 5 (by decide)) fullShare.left (B.wo (orig 3 c 4)) 21 rfl rfl (fun _ => rfl) (fun _ => rfl) rfl ⟨k0_dev22 c, k0_dev22_lt c⟩ (Fin.ext (k0_dev22_eq c)) rfl rfl) $$ HP Hq3 HK3 HL3 Hw
  iintro ⟨Ha3, Hb3, HK3, HL3, Hw⟩
  ihave Hp0 := (show slotAt B 0 c 4 fullShare.right (orig 0 c 4) ⊢ ((m0 4 (by decide)).view.loc (c : Thread nD τ) ↦[(m0 4 (by decide)).view.set]{fullShare.right} (m0 4 (by decide)).view.rep (B.wq (orig 0 c 4)) : sProp 𝕄) from .rfl) $$ Hp0
  ihave Hp1 := (show slotAt B 1 c 4 fullShare.right (orig 1 c 4) ⊢ ((m1 4 (by decide)).view.loc (c : Thread nD τ) ↦[(m1 4 (by decide)).view.set]{fullShare.right} (m1 4 (by decide)).view.rep (B.wo (orig 1 c 4)) : sProp 𝕄) from .rfl) $$ Hp1
  ihave Hp2 := (show slotAt B 2 c 4 fullShare.right (orig 2 c 4) ⊢ ((m2 4 (by decide)).view.loc (c : Thread nD τ) ↦[(m2 4 (by decide)).view.set]{fullShare.right} (m2 4 (by decide)).view.rep (B.wq (orig 2 c 4)) : sProp 𝕄) from .rfl) $$ Hp2
  ihave Hp3 := (show slotAt B 3 c 4 fullShare.right (orig 3 c 4) ⊢ ((m3 4 (by decide)).view.loc (c : Thread nD τ) ↦[(m3 4 (by decide)).view.set]{fullShare.right} (m3 4 (by decide)).view.rep (B.wo (orig 3 c 4)) : sProp 𝕄) from .rfl) $$ Hp3
  sl_exec_parts
  ihave HC := (pt_any c (Memref.whole cc0_scratch4) _) $$ HC
  icases HC with ⟨%C0, HC⟩
  ihave Hp0 := (show ((m0 4 (by decide)).view.loc (c : Thread nD τ) ↦[(m0 4 (by decide)).view.set]{fullShare.right} (m0 4 (by decide)).view.rep (B.wq (orig 0 c 4)) : sProp 𝕄) ⊢ slotAt B 0 c 4 fullShare.right (orig 0 c 4) from .rfl) $$ Hp0
  ihave Hp1 := (show ((m1 4 (by decide)).view.loc (c : Thread nD τ) ↦[(m1 4 (by decide)).view.set]{fullShare.right} (m1 4 (by decide)).view.rep (B.wo (orig 1 c 4)) : sProp 𝕄) ⊢ slotAt B 1 c 4 fullShare.right (orig 1 c 4) from .rfl) $$ Hp1
  ihave Hp2 := (show ((m2 4 (by decide)).view.loc (c : Thread nD τ) ↦[(m2 4 (by decide)).view.set]{fullShare.right} (m2 4 (by decide)).view.rep (B.wq (orig 2 c 4)) : sProp 𝕄) ⊢ slotAt B 2 c 4 fullShare.right (orig 2 c 4) from .rfl) $$ Hp2
  ihave Hp3 := (show ((m3 4 (by decide)).view.loc (c : Thread nD τ) ↦[(m3 4 (by decide)).view.set]{fullShare.right} (m3 4 (by decide)).view.rep (B.wo (orig 3 c 4)) : sProp 𝕄) ⊢ slotAt B 3 c 4 fullShare.right (orig 3 c 4) from .rfl) $$ Hp3
  sl_seam

end Cert.KernelIdeal.Ring
-- ==== Proof.Run5.lean ====
/-
  Stretch 5 of the body's run at device `c`.
-/
module

public import proofs.«01_k».proof.Proof.Run4

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

set_option maxHeartbeats 0 in
/-- Stretch 5 of the run. -/
def s5 (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' (G : Prop), G → (s4 B κ c Q K X0 Kc Vc O0 C0 A0 N0).1 := by
  sl_stretch
  sl_resume
  iapply (waitS2 B κ c 0 3 (by decide) 22 (by decide) (m0 5 (by decide)) (m0 4 (by decide)) rfl rfl) $$ HP Ha0 Hw Hp0 Hk0 Hz0
  iintro ⟨Hk0, Hz0, Hw⟩
  sl_exec_parts
  iapply (waitR2 B κ c 0 4 (by decide) 22 (by decide) (m0 4 (by decide)) (m0 5 (by decide)) rfl rfl) $$ HP Hb0 Hw Hy0
  iintro ⟨Hq0, Hp0, Hy0, Hw⟩
  sl_exec_parts
  iapply (waitS2 B κ c 1 3 (by decide) 22 (by decide) (m1 5 (by decide)) (m1 4 (by decide)) rfl rfl) $$ HP Ha1 Hw Hp1 Hk1 Hz1
  iintro ⟨Hk1, Hz1, Hw⟩
  sl_exec_parts
  iapply (waitR2 B κ c 1 4 (by decide) 22 (by decide) (m1 4 (by decide)) (m1 5 (by decide)) rfl rfl) $$ HP Hb1 Hw Hy1
  iintro ⟨Hq1, Hp1, Hy1, Hw⟩
  sl_exec_parts
  iapply (waitS2 B κ c 2 3 (by decide) 22 (by decide) (m2 5 (by decide)) (m2 4 (by decide)) rfl rfl) $$ HP Ha2 Hw Hp2 Hk2 Hz2
  iintro ⟨Hk2, Hz2, Hw⟩
  sl_exec_parts
  iapply (waitR2 B κ c 2 4 (by decide) 22 (by decide) (m2 4 (by decide)) (m2 5 (by decide)) rfl rfl) $$ HP Hb2 Hw Hy2
  iintro ⟨Hq2, Hp2, Hy2, Hw⟩
  sl_exec_parts
  iapply (waitS2 B κ c 3 3 (by decide) 22 (by decide) (m3 5 (by decide)) (m3 4 (by decide)) rfl rfl) $$ HP Ha3 Hw Hp3 Hk3 Hz3
  iintro ⟨Hk3, Hz3, Hw⟩
  sl_exec_parts
  iapply (waitR2 B κ c 3 4 (by decide) 22 (by decide) (m3 4 (by decide)) (m3 5 (by decide)) rfl rfl) $$ HP Hb3 Hw Hy3
  iintro ⟨Hq3, Hp3, Hy3, Hw⟩
  sl_exec_parts
  iapply (sendK B κ c 0 6 2 (by decide) (by decide) (m0 5 (by decide)) (m0 6 (by decide)) fullShare.left (B.wq (orig 0 c 5)) 22 rfl rfl (fun _ => rfl) (fun _ => rfl) rfl ⟨k0_dev23 c, k0_dev23_lt c⟩ (Fin.ext (k0_dev23_eq c)) rfl rfl) $$ HP Hq0 HK0 HL0 Hw
  iintro ⟨Ha0, Hb0, HK0, HL0, Hw⟩
  sl_exec_parts
  iapply (sendK B κ c 1 6 2 (by decide) (by decide) (m1 5 (by decide)) (m1 6 (by decide)) fullShare.left (B.wo (orig 1 c 5)) 23 rfl rfl (fun _ => rfl) (fun _ => rfl) rfl ⟨k0_dev24 c, k0_dev24_lt c⟩ (Fin.ext (k0_dev24_eq c)) rfl rfl) $$ HP Hq1 HK1 HL1 Hw
  iintro ⟨Ha1, Hb1, HK1, HL1, Hw⟩
  sl_exec_parts
  iapply (sendK B κ c 2 6 1 (by decide) (by decide) (m2 5 (by decide)) (m2 6 (by decide)) fullShare.left (B.wq (orig 2 c 5)) 24 rfl rfl (fun _ => rfl) (fun _ => rfl) rfl ⟨k0_dev25 c, k0_dev25_lt c⟩ (Fin.ext (k0_dev25_eq c)) rfl rfl) $$ HP Hq2 HK2 HL2 Hw
  iintro ⟨Ha2, Hb2, HK2, HL2, Hw⟩
  sl_exec_parts
  iapply (sendK B κ c 3 6 1 (by decide) (by decide) (m3 5 (by decide)) (m3 6 (by decide)) fullShare.left (B.wo (orig 3 c 5)) 25 rfl rfl (fun _ => rfl) (fun _ => rfl) rfl ⟨k0_dev26 c, k0_dev26_lt c⟩ (Fin.ext (k0_dev26_eq c)) rfl rfl) $$ HP Hq3 HK3 HL3 Hw
  iintro ⟨Ha3, Hb3, HK3, HL3, Hw⟩
  ihave Hp0 := (show slotAt B 0 c 5 fullShare.right (orig 0 c 5) ⊢ ((m0 5 (by decide)).view.loc (c : Thread nD τ) ↦[(m0 5 (by decide)).view.set]{fullShare.right} (m0 5 (by decide)).view.rep (B.wq (orig 0 c 5)) : sProp 𝕄) from .rfl) $$ Hp0
  ihave Hp1 := (show slotAt B 1 c 5 fullShare.right (orig 1 c 5) ⊢ ((m1 5 (by decide)).view.loc (c : Thread nD τ) ↦[(m1 5 (by decide)).view.set]{fullShare.right} (m1 5 (by decide)).view.rep (B.wo (orig 1 c 5)) : sProp 𝕄) from .rfl) $$ Hp1
  ihave Hp2 := (show slotAt B 2 c 5 fullShare.right (orig 2 c 5) ⊢ ((m2 5 (by decide)).view.loc (c : Thread nD τ) ↦[(m2 5 (by decide)).view.set]{fullShare.right} (m2 5 (by decide)).view.rep (B.wq (orig 2 c 5)) : sProp 𝕄) from .rfl) $$ Hp2
  ihave Hp3 := (show slotAt B 3 c 5 fullShare.right (orig 3 c 5) ⊢ ((m3 5 (by decide)).view.loc (c : Thread nD τ) ↦[(m3 5 (by decide)).view.set]{fullShare.right} (m3 5 (by decide)).view.rep (B.wo (orig 3 c 5)) : sProp 𝕄) from .rfl) $$ Hp3
  sl_exec_parts
  ihave HC := (pt_any c (Memref.whole cc0_scratch4) _) $$ HC
  icases HC with ⟨%C0, HC⟩
  ihave Hp0 := (show ((m0 5 (by decide)).view.loc (c : Thread nD τ) ↦[(m0 5 (by decide)).view.set]{fullShare.right} (m0 5 (by decide)).view.rep (B.wq (orig 0 c 5)) : sProp 𝕄) ⊢ slotAt B 0 c 5 fullShare.right (orig 0 c 5) from .rfl) $$ Hp0
  ihave Hp1 := (show ((m1 5 (by decide)).view.loc (c : Thread nD τ) ↦[(m1 5 (by decide)).view.set]{fullShare.right} (m1 5 (by decide)).view.rep (B.wo (orig 1 c 5)) : sProp 𝕄) ⊢ slotAt B 1 c 5 fullShare.right (orig 1 c 5) from .rfl) $$ Hp1
  ihave Hp2 := (show ((m2 5 (by decide)).view.loc (c : Thread nD τ) ↦[(m2 5 (by decide)).view.set]{fullShare.right} (m2 5 (by decide)).view.rep (B.wq (orig 2 c 5)) : sProp 𝕄) ⊢ slotAt B 2 c 5 fullShare.right (orig 2 c 5) from .rfl) $$ Hp2
  ihave Hp3 := (show ((m3 5 (by decide)).view.loc (c : Thread nD τ) ↦[(m3 5 (by decide)).view.set]{fullShare.right} (m3 5 (by decide)).view.rep (B.wo (orig 3 c 5)) : sProp 𝕄) ⊢ slotAt B 3 c 5 fullShare.right (orig 3 c 5) from .rfl) $$ Hp3
  sl_seam

end Cert.KernelIdeal.Ring
-- ==== Proof.Run6.lean ====
/-
  Stretch 6 of the body's run at device `c`.
-/
module

public import proofs.«01_k».proof.Proof.Run5

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

set_option maxHeartbeats 0 in
/-- Stretch 6 of the run. -/
def s6 (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' (G : Prop), G → (s5 B κ c Q K X0 Kc Vc O0 C0 A0 N0).1 := by
  sl_stretch
  sl_resume
  iapply (waitS2 B κ c 0 4 (by decide) 26 (by decide) (m0 6 (by decide)) (m0 5 (by decide)) rfl rfl) $$ HP Ha0 Hw Hp0 Hk0 Hz0
  iintro ⟨Hk0, Hz0, Hw⟩
  sl_exec_parts
  iapply (waitR2 B κ c 0 5 (by decide) 26 (by decide) (m0 5 (by decide)) (m0 6 (by decide)) rfl rfl) $$ HP Hb0 Hw Hy0
  iintro ⟨Hq0, Hp0, Hy0, Hw⟩
  sl_exec_parts
  iapply (waitS2 B κ c 1 4 (by decide) 26 (by decide) (m1 6 (by decide)) (m1 5 (by decide)) rfl rfl) $$ HP Ha1 Hw Hp1 Hk1 Hz1
  iintro ⟨Hk1, Hz1, Hw⟩
  sl_exec_parts
  iapply (waitR2 B κ c 1 5 (by decide) 26 (by decide) (m1 5 (by decide)) (m1 6 (by decide)) rfl rfl) $$ HP Hb1 Hw Hy1
  iintro ⟨Hq1, Hp1, Hy1, Hw⟩
  sl_exec_parts
  iapply (waitS2 B κ c 2 4 (by decide) 26 (by decide) (m2 6 (by decide)) (m2 5 (by decide)) rfl rfl) $$ HP Ha2 Hw Hp2 Hk2 Hz2
  iintro ⟨Hk2, Hz2, Hw⟩
  sl_exec_parts
  iapply (waitR2 B κ c 2 5 (by decide) 26 (by decide) (m2 5 (by decide)) (m2 6 (by decide)) rfl rfl) $$ HP Hb2 Hw Hy2
  iintro ⟨Hq2, Hp2, Hy2, Hw⟩
  sl_exec_parts
  iapply (waitS2 B κ c 3 4 (by decide) 26 (by decide) (m3 6 (by decide)) (m3 5 (by decide)) rfl rfl) $$ HP Ha3 Hw Hp3 Hk3 Hz3
  iintro ⟨Hk3, Hz3, Hw⟩
  sl_exec_parts
  iapply (waitR2 B κ c 3 5 (by decide) 26 (by decide) (m3 5 (by decide)) (m3 6 (by decide)) rfl rfl) $$ HP Hb3 Hw Hy3
  iintro ⟨Hq3, Hp3, Hy3, Hw⟩
  sl_exec_parts
  iapply (sendK B κ c 0 7 1 (by decide) (by decide) (m0 6 (by decide)) (m0 7 (by decide)) fullShare.left (B.wq (orig 0 c 6)) 26 rfl rfl (fun _ => rfl) (fun _ => rfl) rfl ⟨k0_dev27 c, k0_dev27_lt c⟩ (Fin.ext (k0_dev27_eq c)) rfl rfl) $$ HP Hq0 HK0 HL0 Hw
  iintro ⟨Ha0, Hb0, HK0, HL0, Hw⟩
  sl_exec_parts
  iapply (sendK B κ c 1 7 1 (by decide) (by decide) (m1 6 (by decide)) (m1 7 (by decide)) fullShare.left (B.wo (orig 1 c 6)) 27 rfl rfl (fun _ => rfl) (fun _ => rfl) rfl ⟨k0_dev28 c, k0_dev28_lt c⟩ (Fin.ext (k0_dev28_eq c)) rfl rfl) $$ HP Hq1 HK1 HL1 Hw
  iintro ⟨Ha1, Hb1, HK1, HL1, Hw⟩
  sl_exec_parts
  iapply (sendK B κ c 2 7 0 (by decide) (by decide) (m2 6 (by decide)) (m2 7 (by decide)) fullShare.left (B.wq (orig 2 c 6)) 28 rfl rfl (fun _ => rfl) (fun _ => rfl) rfl ⟨k0_dev29 c, k0_dev29_lt c⟩ (Fin.ext (k0_dev29_eq c)) rfl rfl) $$ HP Hq2 HK2 HL2 Hw
  iintro ⟨Ha2, Hb2, HK2, HL2, Hw⟩
  sl_exec_parts
  iapply (sendK B κ c 3 7 0 (by decide) (by decide) (m3 6 (by decide)) (m3 7 (by decide)) fullShare.left (B.wo (orig 3 c 6)) 29 rfl rfl (fun _ => rfl) (fun _ => rfl) rfl ⟨k0_dev30 c, k0_dev30_lt c⟩ (Fin.ext (k0_dev30_eq c)) rfl rfl) $$ HP Hq3 HK3 HL3 Hw
  iintro ⟨Ha3, Hb3, HK3, HL3, Hw⟩
  ihave Hp0 := (show slotAt B 0 c 6 fullShare.right (orig 0 c 6) ⊢ ((m0 6 (by decide)).view.loc (c : Thread nD τ) ↦[(m0 6 (by decide)).view.set]{fullShare.right} (m0 6 (by decide)).view.rep (B.wq (orig 0 c 6)) : sProp 𝕄) from .rfl) $$ Hp0
  ihave Hp1 := (show slotAt B 1 c 6 fullShare.right (orig 1 c 6) ⊢ ((m1 6 (by decide)).view.loc (c : Thread nD τ) ↦[(m1 6 (by decide)).view.set]{fullShare.right} (m1 6 (by decide)).view.rep (B.wo (orig 1 c 6)) : sProp 𝕄) from .rfl) $$ Hp1
  ihave Hp2 := (show slotAt B 2 c 6 fullShare.right (orig 2 c 6) ⊢ ((m2 6 (by decide)).view.loc (c : Thread nD τ) ↦[(m2 6 (by decide)).view.set]{fullShare.right} (m2 6 (by decide)).view.rep (B.wq (orig 2 c 6)) : sProp 𝕄) from .rfl) $$ Hp2
  ihave Hp3 := (show slotAt B 3 c 6 fullShare.right (orig 3 c 6) ⊢ ((m3 6 (by decide)).view.loc (c : Thread nD τ) ↦[(m3 6 (by decide)).view.set]{fullShare.right} (m3 6 (by decide)).view.rep (B.wo (orig 3 c 6)) : sProp 𝕄) from .rfl) $$ Hp3
  sl_exec_parts
  ihave HC := (pt_any c (Memref.whole cc0_scratch4) _) $$ HC
  icases HC with ⟨%C0, HC⟩
  ihave Hp0 := (show ((m0 6 (by decide)).view.loc (c : Thread nD τ) ↦[(m0 6 (by decide)).view.set]{fullShare.right} (m0 6 (by decide)).view.rep (B.wq (orig 0 c 6)) : sProp 𝕄) ⊢ slotAt B 0 c 6 fullShare.right (orig 0 c 6) from .rfl) $$ Hp0
  ihave Hp1 := (show ((m1 6 (by decide)).view.loc (c : Thread nD τ) ↦[(m1 6 (by decide)).view.set]{fullShare.right} (m1 6 (by decide)).view.rep (B.wo (orig 1 c 6)) : sProp 𝕄) ⊢ slotAt B 1 c 6 fullShare.right (orig 1 c 6) from .rfl) $$ Hp1
  ihave Hp2 := (show ((m2 6 (by decide)).view.loc (c : Thread nD τ) ↦[(m2 6 (by decide)).view.set]{fullShare.right} (m2 6 (by decide)).view.rep (B.wq (orig 2 c 6)) : sProp 𝕄) ⊢ slotAt B 2 c 6 fullShare.right (orig 2 c 6) from .rfl) $$ Hp2
  ihave Hp3 := (show ((m3 6 (by decide)).view.loc (c : Thread nD τ) ↦[(m3 6 (by decide)).view.set]{fullShare.right} (m3 6 (by decide)).view.rep (B.wo (orig 3 c 6)) : sProp 𝕄) ⊢ slotAt B 3 c 6 fullShare.right (orig 3 c 6) from .rfl) $$ Hp3
  sl_seam

end Cert.KernelIdeal.Ring
-- ==== Proof.Run7.lean ====
/-
  Stretch 7 of the body's run at device `c`.
-/
module

public import proofs.«01_k».proof.Proof.Run6

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

set_option maxHeartbeats 0 in
/-- Stretch 7 of the run. -/
def s7 (Q : PUnit → sProp (MT nD τ sig ℕ (Elt F) ℕ UU ℕ)) (K : sProp (MT nD τ sig ℕ (Elt F) ℕ UU ℕ)) (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' (G : Prop), G → (s6 B κ c Q K X0 Kc Vc O0 C0 A0 N0).1 := by
  sl_stretch
  sl_resume
  iapply (waitS2 B κ c 0 5 (by decide) 30 (by decide) (m0 7 (by decide)) (m0 6 (by decide)) rfl rfl) $$ HP Ha0 Hw Hp0 Hk0 Hz0
  iintro ⟨Hk0, Hz0, Hw⟩
  sl_exec_parts
  iapply (waitR2 B κ c 0 6 (by decide) 30 (by decide) (m0 6 (by decide)) (m0 7 (by decide)) rfl rfl) $$ HP Hb0 Hw Hy0
  iintro ⟨Hq0, Hp0, Hy0, Hw⟩
  sl_exec_parts
  iapply (waitS2 B κ c 1 5 (by decide) 30 (by decide) (m1 7 (by decide)) (m1 6 (by decide)) rfl rfl) $$ HP Ha1 Hw Hp1 Hk1 Hz1
  iintro ⟨Hk1, Hz1, Hw⟩
  sl_exec_parts
  iapply (waitR2 B κ c 1 6 (by decide) 30 (by decide) (m1 6 (by decide)) (m1 7 (by decide)) rfl rfl) $$ HP Hb1 Hw Hy1
  iintro ⟨Hq1, Hp1, Hy1, Hw⟩
  sl_exec_parts
  iapply (waitS2 B κ c 2 5 (by decide) 30 (by decide) (m2 7 (by decide)) (m2 6 (by decide)) rfl rfl) $$ HP Ha2 Hw Hp2 Hk2 Hz2
  iintro ⟨Hk2, Hz2, Hw⟩
  sl_exec_parts
  iapply (waitR2 B κ c 2 6 (by decide) 30 (by decide) (m2 6 (by decide)) (m2 7 (by decide)) rfl rfl) $$ HP Hb2 Hw Hy2
  iintro ⟨Hq2, Hp2, Hy2, Hw⟩
  sl_exec_parts
  iapply (waitS2 B κ c 3 5 (by decide) 30 (by decide) (m3 7 (by decide)) (m3 6 (by decide)) rfl rfl) $$ HP Ha3 Hw Hp3 Hk3 Hz3
  iintro ⟨Hk3, Hz3, Hw⟩
  sl_exec_parts
  iapply (waitR2 B κ c 3 6 (by decide) 30 (by decide) (m3 6 (by decide)) (m3 7 (by decide)) rfl rfl) $$ HP Hb3 Hw Hy3
  iintro ⟨Hq3, Hp3, Hy3, Hw⟩
  sl_exec_parts
  iapply (sendK B κ c 0 8 0 (by decide) (by decide) (m0 7 (by decide)) (m0 8 (by decide)) fullShare.left (B.wq (orig 0 c 7)) 30 rfl rfl (fun _ => rfl) (fun _ => rfl) rfl ⟨k0_dev31 c, k0_dev31_lt c⟩ (Fin.ext (k0_dev31_eq c)) rfl rfl) $$ HP Hq0 HK0 HL0 Hw
  iintro ⟨Ha0, Hb0, HK0, HL0, Hw⟩
  sl_exec_parts
  iapply (sendK B κ c 1 8 0 (by decide) (by decide) (m1 7 (by decide)) (m1 8 (by decide)) fullShare.left (B.wo (orig 1 c 7)) 31 rfl rfl (fun _ => rfl) (fun _ => rfl) rfl ⟨k0_dev32 c, k0_dev32_lt c⟩ (Fin.ext (k0_dev32_eq c)) rfl rfl) $$ HP Hq1 HK1 HL1 Hw
  iintro ⟨Ha1, Hb1, HK1, HL1, Hw⟩
  ihave Hp0 := (show slotAt B 0 c 7 fullShare.right (orig 0 c 7) ⊢ ((m0 7 (by decide)).view.loc (c : Thread nD τ) ↦[(m0 7 (by decide)).view.set]{fullShare.right} (m0 7 (by decide)).view.rep (B.wq (orig 0 c 7)) : sProp 𝕄) from .rfl) $$ Hp0
  ihave Hp1 := (show slotAt B 1 c 7 fullShare.right (orig 1 c 7) ⊢ ((m1 7 (by decide)).view.loc (c : Thread nD τ) ↦[(m1 7 (by decide)).view.set]{fullShare.right} (m1 7 (by decide)).view.rep (B.wo (orig 1 c 7)) : sProp 𝕄) from .rfl) $$ Hp1
  ihave Hp2 := (show slotAt B 2 c 7 fullShare.right (orig 2 c 7) ⊢ ((m2 7 (by decide)).view.loc (c : Thread nD τ) ↦[(m2 7 (by decide)).view.set]{fullShare.right} (m2 7 (by decide)).view.rep (B.wq (orig 2 c 7)) : sProp 𝕄) from .rfl) $$ Hp2
  ihave Hp3 := (show slotAt B 3 c 7 fullShare.right (orig 3 c 7) ⊢ ((m3 7 (by decide)).view.loc (c : Thread nD τ) ↦[(m3 7 (by decide)).view.set]{fullShare.right} (m3 7 (by decide)).view.rep (B.wo (orig 3 c 7)) : sProp 𝕄) from .rfl) $$ Hp3
  sl_exec_parts
  ihave HC := (pt_any c (Memref.whole cc0_scratch4) _) $$ HC
  icases HC with ⟨%C0, HC⟩
  ihave Hp0 := (show ((m0 7 (by decide)).view.loc (c : Thread nD τ) ↦[(m0 7 (by decide)).view.set]{fullShare.right} (m0 7 (by decide)).view.rep (B.wq (orig 0 c 7)) : sProp 𝕄) ⊢ slotAt B 0 c 7 fullShare.right (orig 0 c 7) from .rfl) $$ Hp0
  ihave Hp1 := (show ((m1 7 (by decide)).view.loc (c : Thread nD τ) ↦[(m1 7 (by decide)).view.set]{fullShare.right} (m1 7 (by decide)).view.rep (B.wo (orig 1 c 7)) : sProp 𝕄) ⊢ slotAt B 1 c 7 fullShare.right (orig 1 c 7) from .rfl) $$ Hp1
  ihave Hp2 := (show ((m2 7 (by decide)).view.loc (c : Thread nD τ) ↦[(m2 7 (by decide)).view.set]{fullShare.right} (m2 7 (by decide)).view.rep (B.wq (orig 2 c 7)) : sProp 𝕄) ⊢ slotAt B 2 c 7 fullShare.right (orig 2 c 7) from .rfl) $$ Hp2
  ihave Hp3 := (show ((m3 7 (by decide)).view.loc (c : Thread nD τ) ↦[(m3 7 (by decide)).view.set]{fullShare.right} (m3 7 (by decide)).view.rep (B.wo (orig 3 c 7)) : sProp 𝕄) ⊢ slotAt B 3 c 7 fullShare.right (orig 3 c 7) from .rfl) $$ Hp3
  sl_seam

end Cert.KernelIdeal.Ring
-- ==== Proof.RunEnd.lean ====
/-
  The end of the run, and what it leaves.
-/
module

public import proofs.«01_k».proof.Proof.Run7

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (B : Blocks F) (κ : GSem nD τ sig → ℕ) (c : Dev nD)

/-- What the body leaves on device `c`: its inputs as they were, the output block's sum `v`, everything lent come back, and
    every semaphore at zero. -/
def PostOf (X0 : Buf (Elt F) ((Memref.whole cc0_stg0_0).view.loc (c : Thread nD τ))) (Kc : Buf (Elt F) ((Memref.whole cc0_stg3_0).view.loc (c : Thread nD τ)))
    (Vc : Buf (Elt F) ((Memref.whole cc0_stg4_0).view.loc (c : Thread nD τ))) (O0 : Buf (Elt F) ((Memref.whole cc0_stg5_0).view.loc (c : Thread nD τ)))
    (v : Vec F S512x512 .f32) : sProp 𝕄 :=
  iprop(pt c (Memref.whole cc0_stg0_0) X0 ∗ pt c (Memref.whole cc0_stg3_0) Kc ∗ pt c (Memref.whole cc0_stg4_0) Vc
    ∗ pt c (Memref.whole cc0_stg5_0) ((Memref.whole cc0_stg5_0).view.writes (Elt F) O0
      [⟨Rect.unit ![0, 0, 0] S2x256x512.size inb_S2x256x512_S2x256x512_0_0_0, k0_pay3 v⟩])
    ∗ (∃ f, pt c (Memref.whole cc0_scratch4) f) ∗ (∃ f, pt c (Memref.whole cc0_scratch5) f) ∗ (∃ f, pt c (Memref.whole cc0_scratch6) f)
    ∗ (stgAt B 0 c (lend 0) (orig 0 c 0) ∗ stgAt B 1 c (lend 1) (orig 1 c 0) ∗ stgAt B 2 c (lend 2) (orig 2 c 0) ∗ stgAt B 3 c (lend 3) (orig 3 c 0))
    ∗ (at_ mWq c fullShare.right.right (B.wq c) ∗ at_ mWo c fullShare.right.right (B.wo c))
    ∗ owesK c 32 ∗ atPos ER ((c : Thread nD τ), bS) 1 ∅ 0
    ∗ (zS c 0 8 ∗ zS c 1 8 ∗ zS c 2 7 ∗ zS c 3 7) ∗ (zR c 0 8 ∗ zR c 1 8 ∗ zR c 2 7 ∗ zR c 3 7)
    ∗ (bk c 0 8 ∗ bk c 1 8 ∗ bk c 2 7 ∗ bk c 3 7))

/-- A chain's last landing slot joins the ones before. -/
theorem bk_last (X : Fin 4) (s : ℕ) (h : 1 ≤ s) : (iprop(srcAt B X c (s + 2) ∗ slotAt B X c (s + 1) fullShare.right (orig X c (s + 1)) ∗ bk c X s) : sProp 𝕄) ⊢ bk c X (s + 1) := by
  iintro ⟨Hs, Hr, Hb⟩
  ihave Hs := (Entails.of_eq (show srcAt B X c (s + 2) = (slotAt B X c (s + 1) fullShare.left (orig X c (s + 1)) : sProp 𝕄) from if_neg (by omega))) $$ Hs
  iapply (show (iprop(slotAny X c (s + 1) ∗ bk c X s) : sProp 𝕄) ⊢ bk c X (s + 1) from .rfl)
  isplitl [Hs Hr]
  · iapply (slot_join B c X (s + 1) (orig X c (s + 1)))
    isplitl [Hs] <;> iassumption
  iexact Hb

set_option maxHeartbeats 0 in
/-- The whole run: the output's sum, and that the body reaches its end with it. -/
def fin (X0 : Buf (Elt F) ((Memref.whole cc0_stg0_0).view.loc (c : Thread nD τ))) (Kc : Buf (Elt F) ((Memref.whole cc0_stg3_0).view.loc (c : Thread nD τ))) (Vc : Buf (Elt F) ((Memref.whole cc0_stg4_0).view.loc (c : Thread nD τ))) (O0 : Buf (Elt F) ((Memref.whole cc0_stg5_0).view.loc (c : Thread nD τ))) (C0 : Buf (Elt F) ((Memref.whole cc0_scratch4).view.loc (c : Thread nD τ))) (A0 : Buf (Elt F) ((Memref.whole cc0_scratch5).view.loc (c : Thread nD τ))) (N0 : Buf (Elt F) ((Memref.whole cc0_scratch6).view.loc (c : Thread nD τ))) :
    Σ' v : Vec F S512x512 .f32, ∀ Q : PUnit → sProp 𝕄, RunOf B κ c Q iprop(PostOf B c X0 Kc Vc O0 v -∗ Q ⟨⟩) X0 Kc Vc O0 C0 A0 N0 := by
  apply PSigma.mk
  intro Q
  refine (s0 B κ c Q _ X0 Kc Vc O0 C0 A0 N0).2 ((s1 B κ c Q _ X0 Kc Vc O0 C0 A0 N0).2 ((s2 B κ c Q _ X0 Kc Vc O0 C0 A0 N0).2 ((s3 B κ c Q _ X0 Kc Vc O0 C0 A0 N0).2 ((s4 B κ c Q _ X0 Kc Vc O0 C0 A0 N0).2 ((s5 B κ c Q _ X0 Kc Vc O0 C0 A0 N0).2 ((s6 B κ c Q _ X0 Kc Vc O0 C0 A0 N0).2 ((s7 B κ c Q _ X0 Kc Vc O0 C0 A0 N0).2 ?_)))))))
  sl_resume
  iapply (waitS2 B κ c 0 6 (by decide) 32 (by decide) (m0 8 (by decide)) (m0 7 (by decide)) rfl rfl) $$ HP Ha0 Hw Hp0 Hk0 Hz0
  iintro ⟨Hk0, Hz0, Hw⟩
  sl_exec_parts
  iapply (waitR2 B κ c 0 7 (by decide) 32 (by decide) (m0 7 (by decide)) (m0 8 (by decide)) rfl rfl) $$ HP Hb0 Hw Hy0
  iintro ⟨Hq0, Hp0, Hy0, Hw⟩
  sl_exec_parts
  iapply (waitS2 B κ c 1 6 (by decide) 32 (by decide) (m1 8 (by decide)) (m1 7 (by decide)) rfl rfl) $$ HP Ha1 Hw Hp1 Hk1 Hz1
  iintro ⟨Hk1, Hz1, Hw⟩
  sl_exec_parts
  iapply (waitR2 B κ c 1 7 (by decide) 32 (by decide) (m1 7 (by decide)) (m1 8 (by decide)) rfl rfl) $$ HP Hb1 Hw Hy1
  iintro ⟨Hq1, Hp1, Hy1, Hw⟩
  ihave Hp0 := (show slotAt B 0 c 8 fullShare.right (orig 0 c 8) ⊢ ((m0 8 (by decide)).view.loc (c : Thread nD τ) ↦[(m0 8 (by decide)).view.set]{fullShare.right} (m0 8 (by decide)).view.rep (B.wq (orig 0 c 8)) : sProp 𝕄) from .rfl) $$ Hp0
  ihave Hp1 := (show slotAt B 1 c 8 fullShare.right (orig 1 c 8) ⊢ ((m1 8 (by decide)).view.loc (c : Thread nD τ) ↦[(m1 8 (by decide)).view.set]{fullShare.right} (m1 8 (by decide)).view.rep (B.wo (orig 1 c 8)) : sProp 𝕄) from .rfl) $$ Hp1
  sl_exec_parts
  ihave Hp0 := (show ((m0 8 (by decide)).view.loc (c : Thread nD τ) ↦[(m0 8 (by decide)).view.set]{fullShare.right} (m0 8 (by decide)).view.rep (B.wq (orig 0 c 8)) : sProp 𝕄) ⊢ slotAt B 0 c 8 fullShare.right (orig 0 c 8) from .rfl) $$ Hp0
  ihave Hp1 := (show ((m1 8 (by decide)).view.loc (c : Thread nD τ) ↦[(m1 8 (by decide)).view.set]{fullShare.right} (m1 8 (by decide)).view.rep (B.wo (orig 1 c 8)) : sProp 𝕄) ⊢ slotAt B 1 c 8 fullShare.right (orig 1 c 8) from .rfl) $$ Hp1
  sl_step
  iapply HJ
  unfold PostOf
  isplitl [HX]; · iexact HX
  isplitl [HK]; · iexact HK
  isplitl [HV]; · iexact HV
  isplitl [HO]; · iexact HO
  isplitl [HC]; · iexists _; iexact HC
  isplitl [HA]; · iexists _; iexact HA
  isplitl [HN]; · iexists _; iexact HN
  isplitl [HS0 HS1 HS2 HS3]
  · isplitl [HS0]; · iexact HS0
    isplitl [HS1]; · iexact HS1
    isplitl [HS2]; · iexact HS2
    iexact HS3
  isplitl [HWq HWo]
  · isplitl [HWq]
    · iapply (show (mWq.view.loc (c : Thread nD τ) ↦[mWq.view.set]{fullShare.right.right} mWq.view.rep (B.wq c) : sProp 𝕄) ⊢ at_ mWq c fullShare.right.right (B.wq c) from .rfl); iexact HWq
    iapply (show (mWo.view.loc (c : Thread nD τ) ↦[mWo.view.set]{fullShare.right.right} mWo.view.rep (B.wo c) : sProp 𝕄) ⊢ at_ mWo c fullShare.right.right (B.wo c) from .rfl); iexact HWo
  isplitl [Hw]; · iexact Hw
  isplitl [Hbp]; · iexact Hbp
  isplitl [Hz0 Hz1 Hz2 Hz3]
  · isplitl [Hz0]; · iexact Hz0
    isplitl [Hz1]; · iexact Hz1
    isplitl [Hz2]; · iexact Hz2
    iexact Hz3
  isplitl [Hy0 Hy1 Hy2 Hy3]
  · isplitl [Hy0]; · iexact Hy0
    isplitl [Hy1]; · iexact Hy1
    isplitl [Hy2]; · iexact Hy2
    iexact Hy3
  isplitl [Hq0 Hp0 Hk0]
  · iapply (bk_last B c 0 7 (by decide))
    isplitl [Hq0]; · iexact Hq0
    isplitl [Hp0]; · iexact Hp0
    iexact Hk0
  isplitl [Hq1 Hp1 Hk1]
  · iapply (bk_last B c 1 7 (by decide))
    isplitl [Hq1]; · iexact Hq1
    isplitl [Hp1]; · iexact Hp1
    iexact Hk1
  isplitl [Hq2 Hp2 Hk2]
  · iapply (bk_last B c 2 6 (by decide))
    isplitl [Hq2]; · iexact Hq2
    isplitl [Hp2]; · iexact Hp2
    iexact Hk2
  iapply (bk_last B c 3 6 (by decide))
  isplitl [Hq3]; · iexact Hq3
  isplitl [Hp3]; · iexact Hp3
  iexact Hk3

end Cert.KernelIdeal.Ring
-- ==== Proof.Body.lean ====
/-
  The pipeline's data and its body obligation: what device `c`'s point starts from, what it leaves.
-/
module

public import proofs.«01_k».proof.Proof.Deal
public import proofs.«01_k».proof.Proof.Slots
public import proofs.«01_k».proof.Proof.RunEnd
public import proofs.«01_k».proof.Proof.Gen.KernelIdeal.Regions
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

/-! ## What the windows hold -/

/-- The staged activations on device `c`, -/
def stX (c : Dev nD) : cc0_stg0_0.ty.Contents (Elt F) := (win0_0.blk (0 : Fin 1)).view.read (Elt F) (V1 m c main_v8)
/-- its block of the query weights, -/
def stQ (c : Dev nD) : cc0_stg1_0.ty.Contents (Elt F) := (win0_1.blk (0 : Fin 1)).view.read (Elt F) (V1 m c main_arg1)
/-- of the output weights, -/
def stO (c : Dev nD) : cc0_stg2_0.ty.Contents (Elt F) := (win0_2.blk (0 : Fin 1)).view.read (Elt F) (V1 m c main_arg4)
/-- its keys, -/
def stK (c : Dev nD) : cc0_stg3_0.ty.Contents (Elt F) := (win0_3.blk (0 : Fin 1)).view.read (Elt F) (V1 m c main_v18)
/-- and its values. -/
def stV (c : Dev nD) : cc0_stg4_0.ty.Contents (Elt F) := (win0_4.blk (0 : Fin 1)).view.read (Elt F) (V1 m c main_v20)
/-- The blocks that travel. -/
def Bm : Blocks F := ⟨stQ m, stO m⟩

/-- The sum the body of device `c` ends with, -/
def outV (c : Dev nD) : Vec F S512x512 .f32 := fin.sl.v4447 (Bm m) c (stX m c) (stK m c) (stV m c)
/-- and the block it stores. -/
def outAt (c : Dev nD) : cc0_stg5_0.ty.Contents (Elt F) := k0_pay3 (outV m c)

set_option maxHeartbeats 0 in
/-- The run ends with that sum, whatever its scratch buffers and its output block hold at first. -/
theorem fin_val (κ : GSem nD τ sig → ℕ) (c : Dev nD) (O0 : Buf (Elt F) ((Memref.whole cc0_stg5_0).view.loc (c : Thread nD τ)))
    (C0 : Buf (Elt F) ((Memref.whole cc0_scratch4).view.loc (c : Thread nD τ))) (A0 : Buf (Elt F) ((Memref.whole cc0_scratch5).view.loc (c : Thread nD τ)))
    (N0 : Buf (Elt F) ((Memref.whole cc0_scratch6).view.loc (c : Thread nD τ))) :
    (fin (Bm m) κ c (stX m c) (stK m c) (stV m c) O0 C0 A0 N0).1 = outV m c := by
  delta fin outV
  with_reducible rfl

theorem hz3 : (![0, 0, 0] : Fin 3 → Nat) = fun _ => 0 := funext fun a => by fin_cases a <;> rfl

/-- The last store writes the output block whole. -/
theorem out_whole (O0 : cc0_stg5_0.ty.Contents (Elt F)) (v : Vec F S512x512 .f32) :
    (Memref.whole cc0_stg5_0).view.writes (Elt F) O0 [⟨Rect.unit ![0, 0, 0] S2x256x512.size inb_S2x256x512_S2x256x512_0_0_0, k0_pay3 v⟩] = k0_pay3 v :=
  Memref.write_access_unit_zero_univ (Elt F) cc0_stg5_0 hz3 inb_S2x256x512_S2x256x512_0_0_0 O0 (k0_pay3 v)

/-! ## Before and after the point -/

/-- What device `c` keeps aside through the point. -/
def Rem (c : Dev nD) : sProp 𝕄 :=
  iprop(rest c ∗ bigSepL idle (fun k => semVal ((c : Thread nD τ), osem k) 0) ∗ ∃ r, prngReg c r)

/-- What its point starts from, but for the windows. -/
def Entry (c : Dev nD) : sProp 𝕄 :=
  iprop((∃ κ, prot (Bm m) κ)
    ∗ ((∃ f, pt c (Memref.whole cc0_scratch4) f) ∗ (∃ f, pt c (Memref.whole cc0_scratch5) f) ∗ (∃ f, pt c (Memref.whole cc0_scratch6) f))
    ∗ (dutyTok ER ((left c : Thread nD τ), bS) 0 true ∗ dutyTok ER ((right c : Thread nD τ), bS) 0 false)
    ∗ (reached ER ((left c : Thread nD τ), bS) 0 ∗ reached ER ((right c : Thread nD τ), bS) 0)
    ∗ (barP (left c) true ∗ barP (right c) false)
    ∗ (atPos ER ((c : Thread nD τ), bS) 0 ∅ 0 ∗ cred (tallyAt ((c : Thread nD τ), bS) 1 2))
    ∗ (kit c 0 1 8 ∗ kit c 1 1 8 ∗ kit c 2 1 7 ∗ kit c 3 1 7)
    ∗ Rem c)

/-- What it leaves, but for the windows. -/
def Exit (c : Dev nD) : sProp 𝕄 :=
  iprop((∃ κ, prot (Bm m) κ)
    ∗ ((∃ f, pt c (Memref.whole cc0_scratch4) f) ∗ (∃ f, pt c (Memref.whole cc0_scratch5) f) ∗ (∃ f, pt c (Memref.whole cc0_scratch6) f))
    ∗ atPos ER ((c : Thread nD τ), bS) 1 ∅ 0
    ∗ (zS c 0 8 ∗ zS c 1 8 ∗ zS c 2 7 ∗ zS c 3 7) ∗ (zR c 0 8 ∗ zR c 1 8 ∗ zR c 2 7 ∗ zR c 3 7)
    ∗ (bk c 0 8 ∗ bk c 1 8 ∗ bk c 2 7 ∗ bk c 3 7)
    ∗ Rem c)

def dats (_ : Fin 1) (c : Dev nD) : Dat τ (Elt F) ℕ ℕ UU ℕ cfg0 c where
  A w := V1 m c (Proc.devRef .tc (Pipeline.arrRef spec0 w))
  after w _ := match w with
    | ⟨0, _⟩ => stX m c
    | ⟨1, _⟩ => stQ m c
    | ⟨2, _⟩ => stO m c
    | ⟨3, _⟩ => stK m c
    | ⟨4, _⟩ => stV m c
    | ⟨5, _⟩ => outAt m c
  Φ t := match t with
    | ⟨0, _⟩ => Entry m c
    | ⟨_ + 1, _⟩ => Exit m c
  q _ := fullShare
  owed t := match t with
    | ⟨0, _⟩ => OW c 0
    | ⟨_ + 1, _⟩ => 0

/-- A staging buffer on device `c` at given contents. -/
def stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem owns_stg (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staged weight, whole, as the memref reads it. -/
theorem at_wq (c : Dev nD) (x : S512x256.Idx → Elt F .bf16) : (at_ mWq c fullShare x : sProp 𝕄) = ((c : Thread nD τ).loc cc0_stg1_0 ↦{fullShare} x) :=
  (owns_eq_rep (c : Thread nD τ) mWq fullShare x).symm.trans (owns_whole (c : Thread nD τ) cc0_stg1_0 fullShare x)
theorem at_wo (c : Dev nD) (x : S256x512.Idx → Elt F .bf16) : (at_ mWo c fullShare x : sProp 𝕄) = ((c : Thread nD τ).loc cc0_stg2_0 ↦{fullShare} x) :=
  (owns_eq_rep (c : Thread nD τ) mWo fullShare x).symm.trans (owns_whole (c : Thread nD τ) cc0_stg2_0 fullShare x)

section Weights
variable (B : Blocks F) (c : Dev nD)

theorem stg_wq (X : Fin 4) (h : X = 0 ∨ X = 2) (q : PosShare TreeShare) : (stgAt B X c q (orig X c 0) : sProp 𝕄) = at_ mWq c q (B.wq c) := by
  rw [orig_zero]; rcases h with rfl | rfl <;> rfl
theorem stg_wo (X : Fin 4) (h : X = 1 ∨ X = 3) (q : PosShare TreeShare) : (stgAt B X c q (orig X c 0) : sProp 𝕄) = at_ mWo c q (B.wo c) := by
  rw [orig_zero]; rcases h with rfl | rfl <;> rfl
theorem src_one (X : Fin 4) : (srcAt B X c 1 : sProp 𝕄) = stgAt B X c (lend X) (orig X c 0) := if_pos (Nat.le_refl 1)

/-- The staged weights are lent to the four chains' first copies, -/
theorem lend_out : (iprop(((c : Thread nD τ).loc cc0_stg1_0 ↦{fullShare} B.wq c) ∗ ((c : Thread nD τ).loc cc0_stg2_0 ↦{fullShare} B.wo c)) : sProp 𝕄)
    ⊢ iprop((srcAt B 0 c 1 ∗ srcAt B 1 c 1 ∗ srcAt B 2 c 1 ∗ srcAt B 3 c 1) ∗ at_ mWq c fullShare.right.right (B.wq c) ∗ at_ mWo c fullShare.right.right (B.wo c)) := by
  rw [src_one, src_one, src_one, src_one, stg_wq B c 0 (.inl rfl), stg_wq B c 2 (.inr rfl), stg_wo B c 1 (.inl rfl), stg_wo B c 3 (.inr rfl), ← at_wq, ← at_wo]
  iintro ⟨Hq, Ho⟩
  ihave ⟨Ha, Hb, Hc⟩ := (thirds c mWq (B.wq c)) $$ Hq
  ihave ⟨Hd, He, Hf⟩ := (thirds c mWo (B.wo c)) $$ Ho
  isplitl [Ha Hb Hd He]
  · isplitl [Ha]; · iexact Ha
    isplitl [Hd]; · iexact Hd
    isplitl [Hb]; · iexact Hb
    iexact He
  isplitl [Hc]; · iexact Hc
  iexact Hf
/-- and come back. -/
theorem lend_in : (iprop((stgAt B 0 c (lend 0) (orig 0 c 0) ∗ stgAt B 1 c (lend 1) (orig 1 c 0) ∗ stgAt B 2 c (lend 2) (orig 2 c 0) ∗ stgAt B 3 c (lend 3) (orig 3 c 0))
      ∗ at_ mWq c fullShare.right.right (B.wq c) ∗ at_ mWo c fullShare.right.right (B.wo c)) : sProp 𝕄)
    ⊢ iprop(((c : Thread nD τ).loc cc0_stg1_0 ↦{fullShare} B.wq c) ∗ ((c : Thread nD τ).loc cc0_stg2_0 ↦{fullShare} B.wo c)) := by
  rw [stg_wq B c 0 (.inl rfl), stg_wq B c 2 (.inr rfl), stg_wo B c 1 (.inl rfl), stg_wo B c 3 (.inr rfl), ← at_wq, ← at_wo]
  iintro ⟨⟨Ha, Hd, Hb, He⟩, Hc, Hf⟩
  isplitl [Ha Hb Hc]
  · iapply (unthirds c mWq (B.wq c))
    isplitl [Ha]; · iexact Ha
    isplitl [Hb]; · iexact Hb
    iexact Hc
  iapply (unthirds c mWo (B.wo c))
  isplitl [Hd]; · iexact Hd
  isplitl [He]; · iexact He
  iexact Hf

theorem none_yet : (iprop(emp) : sProp 𝕄) ⊢ iprop((zR c 0 0 ∗ zR c 1 0 ∗ zR c 2 0 ∗ zR c 3 0) ∗ (bk c 0 0 ∗ bk c 1 0 ∗ bk c 2 0 ∗ bk c 3 0)) := by
  show (iprop(emp) : sProp 𝕄) ⊢ iprop((emp ∗ emp ∗ emp ∗ emp) ∗ (emp ∗ emp ∗ emp ∗ emp))
  iintro -
  isplitl []
  · isplitl []; · iempintro
    isplitl []; · iempintro
    isplitl [] <;> iempintro
  isplitl []; · iempintro
  isplitl []; · iempintro
  isplitl [] <;> iempintro

end Weights

/-! ## The body -/

theorem body_pt (c : Dev nD) (b : Ref sig .tc) (f : Buf (Elt F) ((c : Thread nD τ).loc b)) : ((c : Thread nD τ).loc b ↦{fullShare} f : sProp 𝕄) ⊢ ((c : Thread nD τ).loc b ↦[Finset.univ]{fullShare} f) := .rfl

set_option maxHeartbeats 0 in
/-- The body, from what its point starts from to what it leaves. -/
theorem body_run (c : Dev nD) (W : Waits sig ℕ) (O0 : Buf (Elt F) ((c : Thread nD τ).loc cc0_stg5_0)) (Q : PUnit → sProp 𝕄) :
    (iprop(Entry m c ∗ owes (c : Thread nD τ) (OW c 0) W ∗ ((c : Thread nD τ).loc cc0_stg0_0 ↦{fullShare} stX m c) ∗ ((c : Thread nD τ).loc cc0_stg1_0 ↦{fullShare} stQ m c)
      ∗ ((c : Thread nD τ).loc cc0_stg2_0 ↦{fullShare} stO m c) ∗ ((c : Thread nD τ).loc cc0_stg3_0 ↦{fullShare} stK m c) ∗ ((c : Thread nD τ).loc cc0_stg4_0 ↦{fullShare} stV m c)
      ∗ ((c : Thread nD τ).loc cc0_stg5_0 ↦{fullShare} O0)
      ∗ (iprop(Exit m c ∗ (∃ W, owes (c : Thread nD τ) 0 W) ∗ ((c : Thread nD τ).loc cc0_stg0_0 ↦{fullShare} stX m c) ∗ ((c : Thread nD τ).loc cc0_stg1_0 ↦{fullShare} stQ m c)
      ∗ ((c : Thread nD τ).loc cc0_stg2_0 ↦{fullShare} stO m c) ∗ ((c : Thread nD τ).loc cc0_stg3_0 ↦{fullShare} stK m c) ∗ ((c : Thread nD τ).loc cc0_stg4_0 ↦{fullShare} stV m c)
      ∗ ((c : Thread nD τ).loc cc0_stg5_0 ↦{fullShare} outAt m c)) -∗ Q ⟨⟩)) : sProp 𝕄)
    ⊢ wp frame (wpE (defs₀ (F := F)) 𝒱₀ (c : Thread nD τ) none) Set.univ (bodyC (F := F)) Q := by
  unfold Entry
  iintro ⟨⟨⟨%κ, #HP⟩, ⟨⟨%C0, HC⟩, ⟨%A0, HA⟩, ⟨%N0, HN⟩⟩, ⟨Hbl, Hbr⟩, ⟨Hrl, Hrr⟩, ⟨Hl, Hr⟩, ⟨Hbp, Hbc⟩, ⟨HK0, HK1, HK2, HK3⟩, HR⟩, Hw, HX, HQ, HO, HKc, HVc, HOut, HJ⟩
  ihave ⟨⟨HS0, HS1, HS2, HS3⟩, HWq, HWo⟩ := (lend_out (Bm m) c) $$ [HQ HO]
  · isplitl [HQ]; · iexact HQ
    iexact HO
  ihave Hw := (show owes (c : Thread nD τ) (OW c 0) W ⊢ (owesK c 0 : sProp 𝕄) from by unfold owesK; iintro H; iexists W; iexact H) $$ Hw
  have hrun := (fin (Bm m) κ c (stX m c) (stK m c) (stV m c) O0 C0 A0 N0).2 Q
  rw [fin_val] at hrun
  unfold RunOf at hrun
  ihave Hz := (none_yet (F := F) c) $$ []
  · iempintro
  icases Hz with ⟨Hzr, Hbk⟩
  iapply hrun $$ HP HX HKc HVc HOut HC HA HN HS0 HS1 HS2 HS3 HWq HWo Hw Hbl Hbr Hrl Hrr Hl Hr Hbp Hbc HK0 HK1 HK2 HK3 Hzr Hbk
  unfold PostOf
  iintro ⟨HX, HKc, HVc, HOut, HC, HA, HN, HS, HWW, Hw, Hbp, HzS, HzR, Hbk⟩
  iapply HJ
  rw [out_whole]
  unfold Exit
  isplitl [HC HA HN Hbp HzS HzR Hbk HR]
  · isplitl []; · iexists κ; iexact HP
    isplitl [HC HA HN]
    · isplitl [HC]; · iexact HC
      isplitl [HA] <;> iassumption
    isplitl [Hbp]; · iexact Hbp
    isplitl [HzS]; · iexact HzS
    isplitl [HzR]; · iexact HzR
    isplitl [Hbk]; · iexact Hbk
    iexact HR
  isplitl [Hw]
  · iapply (show (owesK c 32 : sProp 𝕄) ⊢ iprop(∃ W, owes (c : Thread nD τ) 0 W) from by unfold owesK; rw [OW_last]) $$ Hw
  isplitl [HX]; · iexact HX
  ihave ⟨HQ, HO⟩ := (lend_in (Bm m) c) $$ [HS HWW]
  · isplitl [HS]; · iexact HS
    iexact HWW
  isplitl [HQ]; · iexact HQ
  isplitl [HO]; · iexact HO
  isplitl [HKc]; · iexact HKc
  isplitl [HVc]; · iexact HVc
  iexact HOut

/-! ## The pipeline's obligation -/

section Before
variable (c : Dev nD)
theorem bef0 (t : Fin cfg0.N) (d : (cfg0.win (0 : Fin 6)).block.Idx → Elt F (cfg0.win (0 : Fin 6)).elt) : (dats m 0 c).before (0 : Fin 6) t d = stX m c := by
  rw [fin_N0 t]; unfold Dat.before; rw [if_pos (fetch0_0 _)]; rfl
theorem bef1 (t : Fin cfg0.N) (d) : (dats m 0 c).before (1 : Fin 6) t d = stQ m c := by
  rw [fin_N0 t]; unfold Dat.before; rw [if_pos (fetch0_1 _)]; rfl
theorem bef2 (t : Fin cfg0.N) (d) : (dats m 0 c).before (2 : Fin 6) t d = stO m c := by
  rw [fin_N0 t]; unfold Dat.before; rw [if_pos (fetch0_2 _)]; rfl
theorem bef3 (t : Fin cfg0.N) (d) : (dats m 0 c).before (3 : Fin 6) t d = stK m c := by
  rw [fin_N0 t]; unfold Dat.before; rw [if_pos (fetch0_3 _)]; rfl
theorem bef4 (t : Fin cfg0.N) (d) : (dats m 0 c).before (4 : Fin 6) t d = stV m c := by
  rw [fin_N0 t]; unfold Dat.before; rw [if_pos (fetch0_4 _)]; rfl
end Before

/-- The point's start, window by window, -/
def bodyPre (c : Dev nD) : sProp 𝕄 :=
  iprop(Entry m c ∗ (dats m 0 c).owesAt 0 t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
/-- and its end. -/
def bodyPost (c : Dev nD) : sProp 𝕄 :=
  iprop(Exit m c ∗ (dats m 0 c).owesAt 0 t0_0.succ
    ∗ stg c cc0_stg0_0 (stX m c) ∗ stg c cc0_stg1_0 (stQ m c) ∗ stg c cc0_stg2_0 (stO m c) ∗ stg c cc0_stg3_0 (stK m c) ∗ stg c cc0_stg4_0 (stV m c) ∗ stg c cc0_stg5_0 (outAt m c))

theorem stg_out (c : Dev nD) (b : Ref sig .tc) (X : b.ty.Contents (Elt F)) : (((c : Thread nD τ).loc b ↦{fullShare} X) : sProp 𝕄) ⊢ stg c b X := by
  unfold stg; iintro H; iexists X; isplitr; · ipureintro; rfl
  iexact H
theorem stg_in (c : Dev nD) (b : Ref sig .tc) (X : b.ty.Contents (Elt F)) : (stg c b X : sProp 𝕄) ⊢ ((c : Thread nD τ).loc b ↦{fullShare} X) := by
  unfold stg; iintro ⟨%f, %h, H⟩; subst h; iexact H

set_option maxHeartbeats 0 in
theorem body_point (c : Dev nD) : (bodyPre m c : sProp 𝕄) ⊢ wp frame (wpE (defs₀ (F := F)) 𝒱₀ (c : Thread nD τ) none) Set.univ (bodyC (F := F)) (fun _ => bodyPost m c) := by
  unfold bodyPre Dat.owesAt Pipeline.owesWithin
  iintro ⟨HE, ⟨%W, %hW, Hw⟩, ⟨%d0, H0⟩, ⟨%d1, H1⟩, ⟨%d2, H2⟩, ⟨%d3, H3⟩, ⟨%d4, H4⟩, ⟨%d5, H5⟩⟩
  rw [bef0, bef1, bef2, bef3, bef4]
  ihave H0 := (stg_in c _ _) $$ H0
  ihave H1 := (stg_in c _ _) $$ H1
  ihave H2 := (stg_in c _ _) $$ H2
  ihave H3 := (stg_in c _ _) $$ H3
  ihave H4 := (stg_in c _ _) $$ H4
  ihave H5 := (stg_in c _ _) $$ H5
  iapply (body_run m c W _ fun _ => bodyPost m c)
  isplitl [HE]; · iexact HE
  isplitl [Hw]; · iexact Hw
  isplitl [H0]; · iexact H0
  isplitl [H1]; · iexact H1
  isplitl [H2]; · iexact H2
  isplitl [H3]; · iexact H3
  isplitl [H4]; · iexact H4
  isplitl [H5]; · iexact H5
  iintro ⟨HE, ⟨%W', Hw⟩, H0, H1, H2, H3, H4, H5⟩
  unfold bodyPost Dat.owesAt Pipeline.owesWithin
  isplitl [HE]; · iexact HE
  isplitl [Hw]
  · iexists W'
    isplitr; · ipureintro; exact fun _ _ => Or.inl trivial
    iexact Hw
  isplitl [H0]; · iapply (stg_out c _ _) $$ H0
  isplitl [H1]; · iapply (stg_out c _ _) $$ H1
  isplitl [H2]; · iapply (stg_out c _ _) $$ H2
  isplitl [H3]; · iapply (stg_out c _ _) $$ H3
  isplitl [H4]; · iapply (stg_out c _ _) $$ H4
  iapply (stg_out c _ _) $$ H5

end Cert.KernelIdeal.Ring
-- ==== Proof.Oblig.lean ====
/-
  The pipeline's body obligation on device `c`.
-/
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

/-- The program the pipeline runs at the point is the kernel's body. -/
theorem body_at : defs₀ (F := F) .tc cfg0.body (cfg0.bodyArgs t0_0 (cfg0.slots t0_0)) = bodyC (F := F) := rfl

/-- What the pipeline gives is what the point starts from, -/
theorem obl_pre (c : Dev nD) : (iprop((dats m 0 c).Φ t0_0.castSucc ∗ (dats m 0 c).owesAt 0 t0_0.castSucc
        ∗ bigSep Finset.univ fun w : Fin cfg0.W => iprop(∃ d, owns (c : Thread nD τ) ((cfg0.win w).stage (cfg0.slots t0_0 w)) fullShare ((dats m 0 c).before w t0_0 d))) : sProp 𝕄)
    = bodyPre m c := by
  rw [bigSep_W0]
  unfold bodyPre stg
  simp only [← owns_stg]
  rfl

section After
variable (c : Dev nD)
theorem phi_last : (dats m 0 c).Φ t0_0.succ = Exit m c := rfl
theorem aft0 : (dats m 0 c).after (0 : Fin 6) t0_0 = stX m c := rfl
theorem aft1 : (dats m 0 c).after (1 : Fin 6) t0_0 = stQ m c := rfl
theorem aft2 : (dats m 0 c).after (2 : Fin 6) t0_0 = stO m c := rfl
theorem aft3 : (dats m 0 c).after (3 : Fin 6) t0_0 = stK m c := rfl
theorem aft4 : (dats m 0 c).after (4 : Fin 6) t0_0 = stV m c := rfl
theorem aft5 : (dats m 0 c).after (5 : Fin 6) t0_0 = outAt m c := by dsimp only [dats]
theorem own0 (X : cc0_stg0_0.ty.Contents (Elt F)) : (owns (c : Thread nD τ) ((cfg0.win (0 : Fin 6)).stage (cfg0.slots t0_0 (0 : Fin 6))) fullShare X : sProp 𝕄) = stg c cc0_stg0_0 X := owns_stg c cc0_stg0_0 X
theorem own1 (X : cc0_stg1_0.ty.Contents (Elt F)) : (owns (c : Thread nD τ) ((cfg0.win (1 : Fin 6)).stage (cfg0.slots t0_0 (1 : Fin 6))) fullShare X : sProp 𝕄) = stg c cc0_stg1_0 X := owns_stg c cc0_stg1_0 X
theorem own2 (X : cc0_stg2_0.ty.Contents (Elt F)) : (owns (c : Thread nD τ) ((cfg0.win (2 : Fin 6)).stage (cfg0.slots t0_0 (2 : Fin 6))) fullShare X : sProp 𝕄) = stg c cc0_stg2_0 X := owns_stg c cc0_stg2_0 X
theorem own3 (X : cc0_stg3_0.ty.Contents (Elt F)) : (owns (c : Thread nD τ) ((cfg0.win (3 : Fin 6)).stage (cfg0.slots t0_0 (3 : Fin 6))) fullShare X : sProp 𝕄) = stg c cc0_stg3_0 X := owns_stg c cc0_stg3_0 X
theorem own4 (X : cc0_stg4_0.ty.Contents (Elt F)) : (owns (c : Thread nD τ) ((cfg0.win (4 : Fin 6)).stage (cfg0.slots t0_0 (4 : Fin 6))) fullShare X : sProp 𝕄) = stg c cc0_stg4_0 X := owns_stg c cc0_stg4_0 X
theorem own5 (X : cc0_stg5_0.ty.Contents (Elt F)) : (owns (c : Thread nD τ) ((cfg0.win (5 : Fin 6)).stage (cfg0.slots t0_0 (5 : Fin 6))) fullShare X : sProp 𝕄) = stg c cc0_stg5_0 X := owns_stg c cc0_stg5_0 X
end After

/-- and what it takes is what the point leaves. -/
theorem obl_post (c : Dev nD) : (iprop((dats m 0 c).Φ t0_0.succ ∗ (dats m 0 c).owesAt 0 t0_0.succ
        ∗ bigSep Finset.univ fun w : Fin cfg0.W => owns (c : Thread nD τ) ((cfg0.win w).stage (cfg0.slots t0_0 w)) fullShare ((dats m 0 c).after w t0_0)) : sProp 𝕄)
    = bodyPost m c := by
  rw [bigSep_W0, phi_last]
  unfold bodyPost
  rw [← own0, ← own1, ← own2, ← own3, ← own4, ← own5, ← aft0, ← aft1, ← aft2, ← aft3, ← aft4, ← aft5]

theorem wp_of_eq (c : Dev nD) {P P' : sProp 𝕄} {p p' : Prog (TpuEff nD τ sig (Elt F) Λ₀ .tc) PUnit} {Q Q' : PUnit → sProp 𝕄}
    (h : P ⊢ wp frame (wpE (defs₀ (F := F)) 𝒱₀ (c : Thread nD τ) none) Set.univ p Q) (hP : P' = P) (hp : p' = p) (hQ : ∀ u, Q' u = Q u) :
    P' ⊢ wp frame (wpE (defs₀ (F := F)) 𝒱₀ (c : Thread nD τ) none) Set.univ p' Q' := by
  subst hP hp
  rw [show Q' = Q from funext hQ]; exact h

set_option maxHeartbeats 0 in
set_option maxRecDepth 20000 in
theorem body_obligation (c : Dev nD) : BodyObligation (dats (F := F) m 0 c) (defs₀ (F := F)) 𝒱₀ 0 Set.univ := by
  unfold BodyObligation
  intro t
  rw [fin_N0 t]
  generalize hp : defs₀ (F := F) .tc cfg0.body (cfg0.bodyArgs t0_0 (cfg0.slots t0_0)) = p
  have h := body_point m c
  rw [show bodyC (F := F) = p from body_at.symm.trans hp] at h
  exact wp_of_eq c h (obl_pre m c) rfl fun _ => obl_post m c

end Cert.KernelIdeal.Ring
-- ==== Proof.Launch.lean ====
/-
  The launch: the kernel's region as a segment between the host operations, and the run of `main` on all sixteen devices.
-/
module

public import proofs.«01_k».proof.Proof.Oblig
public import Idealize.ShloMosaic.Lib.Pipeline.RegionTalk
public import Idealize.ShloMosaic.Lib.Quiescent

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation Seg HostSeg RegionSeg)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

/-! ## What a device brings to the region and takes from it -/

/-- A device's neighbours. -/
def nb (c : Dev nD) : Finset (Dev nD) := {left c, right c}

/-- What device `c` brings: its part of the protocol as launched and its credit. -/
def Tk (c : Dev nD) : sProp 𝕄 := iprop(fam.launched ER (Rd (Bm m)) nb c ∗ Pipeline.launchCred (fun d => OW d 0) c)
/-- What it takes: its barrier semaphore past its one round. -/
def Tk' (c : Dev nD) : sProp 𝕄 := fam.barPos ER (Rd (Bm m)) c 1 ∅
/-- What the kernel's entry makes of what the device brings. -/
def Xk (c : Dev nD) : sProp 𝕄 :=
  iprop((∃ κ, prot (Bm m) κ)
    ∗ (dutyTok ER ((left c : Thread nD τ), bS) 0 true ∗ dutyTok ER ((right c : Thread nD τ), bS) 0 false)
    ∗ (reached ER ((left c : Thread nD τ), bS) 0 ∗ reached ER ((right c : Thread nD τ), bS) 0)
    ∗ (atPos ER ((c : Thread nD τ), bS) 0 ∅ 0 ∗ cred (tallyAt ((c : Thread nD τ), bS) 1 2))
    ∗ bigSepL rows (fun x => kit1 c x.1 x.2) ∗ bigSepL rows (fun x => reached ER ((c : Thread nD τ), rS x.1 x.2) 0)
    ∗ bigSepL idle (fun k => semVal ((c : Thread nD τ), osem k) 0))

theorem nb_eq : ∀ c : Dev nD, nb c = [left c, right c].toFinset := by decide
theorem nb_nodup : ∀ c : Dev nD, [left c, right c].Nodup := by decide

theorem fin1 (Φ : Fin 1 → sProp 𝕄) : bigSep Finset.univ Φ = Φ 0 :=
  (bigSep_univ_eq_bigSepL [(0 : Fin 1)] (by decide) (by decide) Φ).trans (bigSepL_singleton _ _)

/-- The cells' invariants, at names `κ`. -/
def invs (B : Blocks F) (κ : GSem nD τ sig → ℕ) : sProp 𝕄 := fam.cellInvs ER (Rd B) κ

theorem past_eq (B : Blocks F) (c : Dev nD) : (fam.barPos ER (Rd B) c 1 ∅ : sProp 𝕄)
    = iprop((∃ κ, invs B κ) ∗ atPos ER ((c : Thread nD τ), bS) 1 ∅ 0 ∗ emp) :=
  congrArg (fun X : sProp 𝕄 => iprop((∃ κ, fam.cellInvs ER (Rd B) κ) ∗ atPos ER ((c : Thread nD τ), bS) 1 ∅ 0 ∗ X)) BI.bigSep_empty

theorem barPos_eq (B : Blocks F) (c : Dev nD) : (fam.barPos ER (Rd B) c 0 (nb c) : sProp 𝕄)
    = iprop((∃ κ, invs B κ) ∗ atPos ER ((c : Thread nD τ), bS) 0 ∅ 0
        ∗ (reached ER ((left c : Thread nD τ), bS) 0 ∗ reached ER ((right c : Thread nD τ), bS) 0)) :=
  congrArg (fun X : sProp 𝕄 => iprop((∃ κ, fam.cellInvs ER (Rd B) κ) ∗ atPos ER ((c : Thread nD τ), bS) 0 ∅ 0 ∗ X))
    ((bigSep_eq_bigSepL_of_eq _ (nb_eq c) (nb_nodup c) fun n => reached ER ((n : Thread nD τ), bS) 0).trans
      (by rw [bigSepL_cons', bigSepL_singleton]))

theorem rides_eq (B : Blocks F) (c : Dev nD) : (fam.rides ER (Rd B) c 0 : sProp 𝕄)
    = iprop((∃ κ, invs B κ)
      ∗ (bigSepL idle (fun k => openTok ER ((c : Thread nD τ), osem k)) ∗ bigSepL rows (fun x => openTok ER ((c : Thread nD τ), sS x.1 x.2))
          ∗ bigSepL rows (fun x => openTok ER ((c : Thread nD τ), rS x.1 x.2)))
      ∗ (dutyTok ER ((left c : Thread nD τ), bS) 0 true ∗ dutyTok ER ((right c : Thread nD τ), bS) 0 false
          ∗ bigSepL rows (fun x => dutyTok ER ((c : Thread nD τ), sS x.1 x.2) 0 false)
          ∗ bigSepL rows (fun x => dutyTok ER (((peer x.1 c : Dev nD) : Thread nD τ), rS x.1 x.2) 0 false))) := by
  unfold TalkSites.Fam.rides invs
  rw [dorm_rows (F := F) (fun sm => openTok ER ((c : Thread nD τ), sm)), toks_rows (F := F) c (fun x => dutyTok ER x.1 x.2.1 x.2.2)]

theorem launched_eq (B : Blocks F) (c : Dev nD) : (fam.launched ER (Rd B) nb c : sProp 𝕄)
    = iprop(fam.barPos ER (Rd B) c 0 (nb c) ∗ fam.rides ER (Rd B) c 0) := by
  unfold TalkSites.Fam.launched
  rw [fin1]

theorem prot_of (B : Blocks F) (κ : GSem nD τ sig → ℕ) : (iprop(invs B κ ∗ levAts (L 10) lv) : sProp 𝕄) ⊢ prot B κ := by
  unfold prot invs; exact .rfl
theorem prot_to (B : Blocks F) (κ : GSem nD τ sig → ℕ) : (prot B κ : sProp 𝕄) ⊢ iprop(invs B κ ∗ levAts (L 10) lv) := by
  unfold prot invs; exact .rfl

theorem prot_ex (B : Blocks F) : (iprop((∃ κ, invs B κ) ∗ levAts (L 10) lv) : sProp 𝕄) ⊢ iprop(∃ κ, prot B κ) := by
  iintro ⟨⟨%κ, HI⟩, HL⟩
  iexists κ
  iapply (prot_of B κ)
  isplitl [HI]
  · iexact HI
  iexact HL

/-- What a device's share of the launch opens into, the barrier's part apart. -/
def Made (c : Dev nD) : sProp 𝕄 :=
  iprop((∃ κ, prot (Bm m) κ) ∗ bigSepL rows (fun x => kit1 c x.1 x.2) ∗ bigSepL rows (fun x => reached ER ((c : Thread nD τ), rS x.1 x.2) 0))

theorem made_at (κ : GSem nD τ sig → ℕ) (c : Dev nD) :
    (iprop(prot (Bm m) κ
      ∗ bigSepL rows (fun x => openTok ER ((c : Thread nD τ), sS x.1 x.2)) ∗ bigSepL rows (fun x => openTok ER ((c : Thread nD τ), rS x.1 x.2))
      ∗ bigSepL rows (fun x => semVal ((c : Thread nD τ), sS x.1 x.2) 0) ∗ bigSepL rows (fun x => semVal ((c : Thread nD τ), rS x.1 x.2) 0)
      ∗ bigSepL rows (fun x => dutyTok ER ((c : Thread nD τ), sS x.1 x.2) 0 false)
      ∗ bigSepL rows (fun x => dutyTok ER (((peer x.1 c : Dev nD) : Thread nD τ), rS x.1 x.2) 0 false)
      ∗ bigSepL rows (fun x => cred (tallyAt ((c : Thread nD τ), rS x.1 x.2) (1 + x.2) N))) : sProp 𝕄) ⊢ |={Set.univ}=> Made m c := by
  iintro ⟨#HP, H⟩
  imod (openAll (Bm m) κ c) $$ [H] with ⟨Hk, Hr⟩
  · isplitl []; · iexact HP
    iexact H
  imodintro
  unfold Made
  isplitl []; · iexists κ; iexact HP
  isplitl [Hk]; · iexact Hk
  iexact Hr

theorem made (c : Dev nD) :
    (iprop((∃ κ, prot (Bm m) κ)
      ∗ bigSepL rows (fun x => openTok ER ((c : Thread nD τ), sS x.1 x.2)) ∗ bigSepL rows (fun x => openTok ER ((c : Thread nD τ), rS x.1 x.2))
      ∗ bigSepL rows (fun x => semVal ((c : Thread nD τ), sS x.1 x.2) 0) ∗ bigSepL rows (fun x => semVal ((c : Thread nD τ), rS x.1 x.2) 0)
      ∗ bigSepL rows (fun x => dutyTok ER ((c : Thread nD τ), sS x.1 x.2) 0 false)
      ∗ bigSepL rows (fun x => dutyTok ER (((peer x.1 c : Dev nD) : Thread nD τ), rS x.1 x.2) 0 false)
      ∗ bigSepL rows (fun x => cred (tallyAt ((c : Thread nD τ), rS x.1 x.2) (1 + x.2) N))) : sProp 𝕄) ⊢ |={Set.univ}=> Made m c := by
  iintro ⟨⟨%κ, HP⟩, H⟩
  iapply (made_at m κ c)
  isplitl [HP]; · iexact HP
  iexact H

set_option maxHeartbeats 0 in
theorem hopen (c : Dev nD) : (iprop(Tk m c ∗ Pipeline.ownSems0 osem c ∗ levAts (L 10) lv) : sProp 𝕄) ⊢ |={Set.univ}=> Xk m c := by
  unfold Tk Pipeline.ownSems0
  rw [launched_eq, barPos_eq, rides_eq, own_rows (fun sm => semVal ((c.tc : Thread nD τ), sm) 0)]
  iintro ⟨⟨⟨⟨-, Hat, Hrl, Hrr⟩, HI, ⟨-, Hos, Hor⟩, ⟨Htl, Htr, Hts, Htp⟩⟩, Hcr⟩, ⟨Hid, Hvs, Hvr⟩, HL⟩
  ihave ⟨Hcb, Hcr⟩ := (cred_rows (F := F) c) $$ Hcr
  ihave HP := (prot_ex (Bm m)) $$ [HI HL]
  · isplitl [HI]
    · iexact HI
    iexact HL
  imod (made m c) $$ [HP Hos Hor Hvs Hvr Hts Htp Hcr] with HM
  · isplitl [HP]; · iexact HP
    isplitl [Hos]; · iexact Hos
    isplitl [Hor]; · iexact Hor
    isplitl [Hvs]; · iexact Hvs
    isplitl [Hvr]; · iexact Hvr
    isplitl [Hts]; · iexact Hts
    isplitl [Htp]; · iexact Htp
    iexact Hcr
  imodintro
  unfold Xk Made
  icases HM with ⟨HP, Hk, Hr⟩
  isplitl [HP]; · iexact HP
  isplitl [Htl Htr]
  · isplitl [Htl]; · iexact Htl
    iexact Htr
  isplitl [Hrl Hrr]
  · isplitl [Hrl]; · iexact Hrl
    iexact Hrr
  isplitl [Hat Hcb]
  · isplitl [Hat]; · iexact Hat
    iexact Hcb
  isplitl [Hk]; · iexact Hk
  isplitl [Hr]; · iexact Hr
  iexact Hid

/-- The slots upwards, as the landing buffers cut, -/
abbrev up8 : List (Fin 8) := [0, 1, 2, 3, 4, 5, 6, 7]
abbrev up7 : List (Fin 7) := [0, 1, 2, 3, 4, 5, 6]
/-- and downwards, as they join. -/
abbrev dn8 : List (Fin 8) := [7, 6, 5, 4, 3, 2, 1, 0]
abbrev dn7 : List (Fin 7) := [6, 5, 4, 3, 2, 1, 0]

/-- The landing buffers, free, with their receive cells open, are what the neighbours are handed. -/
theorem lands (c : Dev nD) : (iprop((bigSepL (row 0 1 8) (fun x => slotAny x.1 c x.2) ∗ bigSepL (row 1 1 8) (fun x => slotAny x.1 c x.2)
      ∗ bigSepL (row 2 1 7) (fun x => slotAny x.1 c x.2) ∗ bigSepL (row 3 1 7) (fun x => slotAny x.1 c x.2))
      ∗ bigSepL rows (fun x => reached ER ((c : Thread nD τ), rS x.1 x.2) 0)) : sProp 𝕄) ⊢ iprop(barP (left c) true ∗ barP (right c) false) := by
  rw [show (barP (left c) true : sProp 𝕄) = iprop(land 0 (right (left c)) 1 8 ∗ land 1 (right (left c)) 1 8) from rfl,
    show (barP (right c) false : sProp 𝕄) = iprop(land 2 (left (right c)) 1 7 ∗ land 3 (left (right c)) 1 7) from rfl,
    right_left, left_right, land_row, land_row, land_row, land_row, rows_sep]
  unfold land1
  rw [sepL_sep, sepL_sep, sepL_sep, sepL_sep]
  iintro ⟨⟨H0, H1, H2, H3⟩, R0, R1, R2, R3⟩
  isplitl [H0 R0 H1 R1]
  · isplitl [H0 R0]
    · isplitl [H0] <;> iassumption
    isplitl [H1] <;> iassumption
  isplitl [H2 R2]
  · isplitl [H2] <;> iassumption
  isplitl [H3] <;> iassumption

theorem pt_loc (c : Dev nD) (b : Ref sig .tc) (f : Buf (Elt F) ((c : Thread nD τ).loc b)) :
    ((c : Thread nD τ).loc b ↦{fullShare} f : sProp 𝕄) = ((c : Thread nD τ).loc b ↦[Finset.univ]{fullShare} f) := rfl

set_option maxHeartbeats 0 in
theorem hin (c : Dev nD) (V : Valuation τ sig (Elt F)) : (iprop(Pipeline.scopedRest spec0 c ∗ (∃ r, prngReg c r) ∗ StableHlo.held (c.tc : Thread nD τ) ∅ V ∗ Xk m c) : sProp 𝕄) ⊢ Entry m c := by
  rw [scopedRest0_eq]
  unfold Xk Entry Rem
  rw [kit_row, kit_row, kit_row, kit_row, rows_sep (fun x => kit1 c x.1 x.2)]
  iintro ⟨⟨S0, S1, S2, S3, S4, S5, S6⟩, Hp, -, HP, Ht, Hr, Hb, Hk, Hre, Hid⟩
  ihave ⟨HS, Hrest⟩ := (cut c up8 up7 (by decide) (by decide) (by decide) (by decide)) $$ [S0 S1 S2 S3]
  · isplitl [S0]; · iexact S0
    isplitl [S1]; · iexact S1
    isplitl [S2]; · iexact S2
    iexact S3
  ihave Hl := (lands c) $$ [HS Hre]
  · isplitl [HS]; · iexact HS
    iexact Hre
  isplitl [HP]; · iexact HP
  isplitl [S4 S5 S6]
  · isplitl [S4]; · iexact S4
    isplitl [S5]; · iexact S5
    iexact S6
  isplitl [Ht]; · iexact Ht
  isplitl [Hr]; · iexact Hr
  isplitl [Hl]; · iexact Hl
  isplitl [Hb]; · iexact Hb
  isplitl [Hk]; · iexact Hk
  isplitl [Hrest]; · iexact Hrest
  isplitl [Hid]; · iexact Hid
  iexact Hp

theorem held_none (c : Dev nD) (V : Valuation τ sig (Elt F)) : (StableHlo.held (c.tc : Thread nD τ) ∅ V : sProp 𝕄) = iprop(emp) := by
  unfold StableHlo.held; exact BI.bigSep_empty

set_option maxHeartbeats 0 in
theorem hout (c : Dev nD) (V : Valuation τ sig (Elt F)) : (Exit m c : sProp 𝕄)
    ⊢ iprop(Pipeline.scopedRest spec0 c ∗ (∃ r, prngReg c r) ∗ StableHlo.held (c.tc : Thread nD τ) ∅ V ∗ Pipeline.ownSems0 osem c ∗ Tk' m c) := by
  rw [scopedRest0_eq, held_none]
  unfold Exit Rem Pipeline.ownSems0 Tk'
  rw [past_eq, own_cols (fun sm => semVal ((c.tc : Thread nD τ), sm) 0), cols_sep, cols_sep, zS_col, zS_col, zS_col, zS_col, zR_col, zR_col, zR_col, zR_col,
    bk_col, bk_col, bk_col, bk_col]
  iintro ⟨⟨%κ, #HP⟩, ⟨S4, S5, S6⟩, Hat, HzS, HzR, Hbk, Hrest, Hid, Hp⟩
  ihave ⟨S0, S1, S2, S3⟩ := (uncut c dn8 dn7 (by decide) (by decide) (by decide) (by decide)) $$ [Hbk Hrest]
  · isplitl [Hbk]; · iexact Hbk
    iexact Hrest
  ihave HP' := (prot_to (Bm m) κ) $$ HP
  icases HP' with ⟨HI, -⟩
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitl [Hp]; · iexact Hp
  isplitl []; · iempintro
  isplitl [Hid HzS HzR]
  · isplitl [Hid]; · iexact Hid
    isplitl [HzS]; · iexact HzS
    iexact HzR
  isplitl [HI]; · iexists κ; iexact HI
  isplitl [Hat]; · iexact Hat
  iempintro

/-! ## The region -/

/-- What the region leaves in its output array. -/
def resV (c : Dev nD) : Buf (Elt F) ((c : Thread nD τ).loc main_v21) := (dats m 0 c).arrAt (5 : Fin 6) cfg0.N
/-- The contents after the region, where they may have changed. -/
def outs : Outs (F := F) := fun _ r c => Function.update (fun r : Ref sig .tc => m ((c : Thread nD τ).loc r)) main_v21 (resV m c) r
theorem outs_v21 (c : Dev nD) : outs m 2 main_v21 c = resV m c := Function.update_self ..

theorem ownSemFacts : Pipeline.OwnSemFacts cfg0.spec osem := by decide
theorem share_eq (c : Dev nD) (w : Fin cfg0.W) : (dats m 0 c).share w = fullShare := by unfold Dat.share; split <;> rfl

/-- The kernel's region has what the launch asks of one. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem arr_sub : Pipeline.arrRefs spec0 ⊆ Pipeline.ucRefs τ sig := Pipeline.arrRefs_sub_ucRefs spec0 (by decide)
theorem v21_mem : (Proc.devRef .tc main_v21 : DevRef τ sig) ∈ Pipeline.arrRefs (τ := τ) spec0 :=
  Finset.mem_map.mpr ⟨main_v21, Finset.mem_image.mpr ⟨(5 : Fin 6), Finset.mem_univ _, rfl⟩, rfl⟩

theorem rest_same (c : Dev nD) (b : DevRef τ sig) (hb : b ∈ (Pipeline.ucRefs τ sig \ Pipeline.arrRefs spec0) \ ∅) : V2 m (outs m) c b = V1 m c b := by
  rw [Finset.sdiff_empty] at hb
  refine Function.update_of_ne (fun h => ?_) _ _
  subst h
  exact (Finset.mem_sdiff.mp hb).2 v21_mem

theorem cut_facts (c : Dev nD) (t : Fin (cfg0.N + 1)) (g : GSem nD τ sig) (i : ℕ) (h : 0 < (dats m 0 c).owed t g i) : i ∈ L 10 g ∧ 0 < lv g i := by
  obtain ⟨t, ht⟩ := t
  cases t with
  | zero =>
    obtain ⟨x, hx, rfl, rfl⟩ := TalkSites.tallyL_pos (show 0 < TalkSites.tallyL (dueL c) g i from h)
    obtain ⟨y, hy, rfl⟩ := List.mem_map.mp hx
    have hlt : ∀ y ∈ shape, 0 < y.2.2.1 ∧ y.2.2.1 < 10 := by decide +kernel
    exact ⟨SiteBlocks.mem_L' rfl (hlt y hy).2, (hlt y hy).1⟩
  | succ t => exact absurd h (Nat.lt_irrefl 0)

theorem arr_before (c : Dev nD) (w : Fin cfg0.W) : (dats m 0 c).arrAt w 0 = V1 m c (Proc.devRef .tc (Pipeline.arrRef spec0 w)) := rfl

theorem arr_after (c : Dev nD) (w : Fin cfg0.W) : (dats m 0 c).arrAt w cfg0.N = V2 m (outs m) c (Proc.devRef .tc (Pipeline.arrRef spec0 w)) := by
  have h (w : Fin 6) (hw : (cfg0.win w).isOut = false) (hr : Pipeline.arrRef spec0 w ∉ ([main_v21] : List (Ref sig .tc))) :
      (dats m 0 c).arrAt w cfg0.N = V2 m (outs m) c (Proc.devRef .tc (Pipeline.arrRef spec0 w)) :=
    ((dats m 0 c).arrAt_in w hw _).trans (V2_of m (outs m) c _ hr).symm
  have h5 : (dats m 0 c).arrAt (5 : Fin 6) cfg0.N = V2 m (outs m) c (Proc.devRef .tc main_v21) := by
    show resV m c = V2 m (outs m) c (Proc.devRef .tc main_v21)
    unfold V2; rw [Function.update_self, outs_v21]
  match w with
  | ⟨0, _⟩ => exact h 0 rfl (by decide)
  | ⟨1, _⟩ => exact h 1 rfl (by decide)
  | ⟨2, _⟩ => exact h 2 rfl (by decide)
  | ⟨3, _⟩ => exact h 3 rfl (by decide)
  | ⟨4, _⟩ => exact h 4 rfl (by decide)
  | ⟨5, _⟩ => exact h5

set_option backward.isDefEq.respectTransparency.types false in
/-- The kernel's region, entered at what the host operations leave. -/
def R0 : RegionSeg (pcfgs (F := F)) adm (dats m) (0 : ℕ) defs₀ 𝒱₀ (L 10) lv 0 :=
  RegionSeg.ofTalk (pcfgs (F := F)) adm (dats m) (0 : ℕ) defs₀ 𝒱₀ (L 10) lv 0 osem ownSemFacts
    ∅ (Pipeline.ucRefs τ sig \ Pipeline.arrRefs spec0) (Finset.empty_subset _) kitP rfl (fun c => (body_obligation m c).loose)
    (fun _ => 0) (fun c => OW c 0) (fun c => (zero_add _).symm) (fun c => rfl) (fun _ => rfl) (fun c w => share_eq m c w)
    (V1 m) (V2 m (outs m)) (fun c b hb => rest_same m c b hb)
    (Tk m) (Tk' m) (Xk m) (Tk' m)
    (fun c => hopen m c) (fun c => hin m c (V1 m c)) (fun c => hout m c (V2 m (outs m) c)) (fun c => fupd_intro)
    (fun _ => 0) ⟨fun c w s => SiteBlocks.mem_L c _ (by decide), fun c w s => le_refl _, fun c t g i h => cut_facts m c t g i h⟩
    (fun _ => iprop(emp)) (fun c w => arr_before m c w) (fun c w => arr_after m c w)

/-! ## The run -/

/-- What rides beside the buffers before each item and after the last. -/
def E : Fin 2 → Dev nD → sProp 𝕄
  | 0, c => iprop((∃ r, prngReg c r) ∗ Tk m c ∗ ∃ W, owes (c : Thread nD τ) (OW c 0) W)
  | 1, c => iprop((∃ r, prngReg c r) ∗ Tk' m c ∗ ∃ W, owes (c : Thread nD τ) (0 : CellTallies nD τ sig ℕ) W)

theorem held_parts (c : Dev nD) (V : Valuation τ sig (Elt F)) : (StableHlo.held (c : Thread nD τ) (Pipeline.ucRefs τ sig) V : sProp 𝕄)
    = iprop(StableHlo.held (c : Thread nD τ) (Pipeline.arrRefs spec0) V ∗ StableHlo.held (c : Thread nD τ) (Pipeline.ucRefs τ sig \ Pipeline.arrRefs spec0) V) :=
  StableHlo.held_sub_split (c.tc : Thread nD τ) arr_sub V

theorem region_pre (c : Dev nD) : (iprop(StableHlo.held (c : Thread nD τ) (Pipeline.ucRefs τ sig) (V1 m c) ∗ E m 0 c) : sProp 𝕄)
    ⊢ iprop(StableHlo.held (c.tc : Thread nD τ) (Pipeline.arrRefs spec0) (V1 m c) ∗ (∃ r, prngReg c r)
    ∗ (StableHlo.held (c.tc : Thread nD τ) (Pipeline.ucRefs τ sig \ Pipeline.arrRefs spec0) (V1 m c) ∗ emp) ∗ Tk m c ∗ ∃ Wd, owes (c : Thread nD τ) (0 + OW c 0) Wd) := by
  rw [held_parts, zero_add]
  unfold E
  iintro ⟨⟨Ha, Hs⟩, Hp, HT, HO⟩
  isplitl [Ha]; · iexact Ha
  isplitl [Hp]; · iexact Hp
  isplitl [Hs]
  · isplitl [Hs]; · iexact Hs
    iempintro
  isplitl [HT]; · iexact HT
  iexact HO

theorem region_post (c : Dev nD) : (iprop(StableHlo.held (c.tc : Thread nD τ) (Pipeline.arrRefs spec0) (V2 m (outs m) c) ∗ (∃ r, prngReg c r)
    ∗ (StableHlo.held (c.tc : Thread nD τ) (Pipeline.ucRefs τ sig \ Pipeline.arrRefs spec0) (V2 m (outs m) c) ∗ emp) ∗ Tk' m c ∗ ∃ Wd, owes (c : Thread nD τ) (0 : CellTallies nD τ sig ℕ) Wd) : sProp 𝕄)
    ⊢ iprop((StableHlo.held (c : Thread nD τ) (Pipeline.ucRefs τ sig) (V2 m (outs m) c) ∗ Tk' m c) ∗ ∃ W, owes (c : Thread nD τ) (0 : CellTallies nD τ sig ℕ) W) := by
  rw [held_parts]
  iintro ⟨Ha, -, ⟨Hs, -⟩, HT, HO⟩
  isplitr [HO]
  · isplitr [HT]
    · isplitl [Ha] <;> iassumption
    iexact HT
  iexact HO

/-- The launch's element of the protocol, on one device until the launch deals it. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  have h : (bigSep (Finset.univ.erase c₀) (onDev c₀ X) : sProp 𝕄) = BI.emp :=
    (bigSep_congr (Ψ := fun _ => BI.emp) (fun c hc => by unfold onDev; rw [if_neg (Finset.ne_of_mem_erase hc)]; rfl)).trans (BI.bigSep_emp_const _)
  rw [bigSep_univ_at _ c₀, h]
  unfold onDev
  rw [if_pos rfl]
  exact equiv_iff.mp sep_emp

def u₀ : UU := (initOf (Pipeline.cells cfgs cellOf_inj) (Pipeline.launchToks cfgs cellOf_inj), launchOf fam.S fam.Sd fam.T)
def G : Dev nD → sProp 𝕄 := onDev 0 (BI.own (ER (launchOf fam.S fam.Sd fam.T)))

theorem G_all : bigSep Finset.univ (G (F := F)) = (BI.own (ER (launchOf fam.S fam.Sd fam.T)) : sProp 𝕄) := bigSep_onDev 0 _

theorem hu₀ : (ownU u₀ : sProp 𝕄) ⊢ |={Set.univ}=> iprop(BI.own (EP (initOf (Pipeline.cells cfgs cellOf_inj) (Pipeline.launchToks cfgs cellOf_inj))) ∗ bigSep Finset.univ (G (F := F))) := by
  unfold u₀ G
  iintro Hu
  ihave H := (ownU_pair _ _) $$ Hu
  icases H with ⟨HP, HX⟩
  imodintro
  isplitl [HP]; · iexact HP
  rw [bigSep_onDev]; iexact HX

theorem unscoped_eq (c : Dev nD) : (unscopedSems0 c : sProp 𝕄) = semVal ((c : Thread nD τ), bS) 0 := by
  unfold unscopedSems0
  rw [bigSep_eq_bigSepL_of_eq [bS] (by decide) (by decide), bigSepL_singleton]

theorem funded : SiteBlocks.Funds ER (fun c => semVal ((c.tc : Thread nD τ), bS) 0) (fun d => (0 : CellTallies nD τ sig ℕ) + OW d 0) (launchOf fam.S fam.Sd fam.T)
    (fun c => iprop(Pipeline.launchCred (fun d => OW d 0) c ∗ fam.launched ER (Rd (Bm m)) nb c)) Set.univ :=
  TalkSites.pass (fun d => OW d 0) (fam.funds ER (Rd (Bm m)) (fun _ _ h => h) nb)

set_option maxHeartbeats 0 in
theorem deal (ρ : Dev nD → PrngReg) :
    (iprop(bigSep Finset.univ fun c : Dev nD => iprop(unscopedSems0 c ∗ owes (c : Thread nD τ) (OW c 0) ∅ ∗ Pipeline.launchCred (fun d => OW d 0) c ∗ prngReg c (ρ c) ∗ G (F := F) c)) : sProp 𝕄)
      ⊢ |={Set.univ}=> bigSep Finset.univ (E m 0) := by
  have hsplit : (bigSep Finset.univ fun c : Dev nD => iprop(unscopedSems0 c ∗ owes (c : Thread nD τ) (OW c 0) ∅ ∗ Pipeline.launchCred (fun d => OW d 0) c ∗ prngReg c (ρ c) ∗ G (F := F) c) : sProp 𝕄)
      ⊢ iprop((bigSep Finset.univ fun c : Dev nD => iprop(semVal ((c.tc : Thread nD τ), bS) 0 ∗ Pipeline.launchCred (fun d => (0 : CellTallies nD τ sig ℕ) + OW d 0) c))
        ∗ (bigSep Finset.univ fun c : Dev nD => iprop((∃ r, prngReg c r) ∗ ∃ W, owes (c : Thread nD τ) (OW c 0) W)) ∗ bigSep Finset.univ (G (F := F))) := by
    simp only [zero_add]
    rw [← bigSep_sep', ← bigSep_sep']
    refine bigSep_mono fun c _ => ?_
    rw [unscoped_eq]
    show (iprop(semVal ((c : Thread nD τ), bS) 0 ∗ owes (c : Thread nD τ) (OW c 0) ∅ ∗ Pipeline.launchCred (fun d => OW d 0) c ∗ prngReg c (ρ c) ∗ G (F := F) c) : sProp 𝕄)
      ⊢ iprop((semVal ((c : Thread nD τ), bS) 0 ∗ Pipeline.launchCred (fun d => OW d 0) c) ∗ ((∃ r, prngReg c r) ∗ ∃ W, owes (c : Thread nD τ) (OW c 0) W) ∗ G (F := F) c)
    iintro ⟨Hs, Ho, Hl, Hp, HG⟩
    isplitl [Hs Hl]; · isplitl [Hs] <;> iassumption
    isplitl [Hp Ho]
    · isplitl [Hp]; · iexists ρ c; iexact Hp
      iexists ∅; iexact Ho
    iexact HG
  have hjoin : (iprop((bigSep Finset.univ fun c : Dev nD => iprop(Pipeline.launchCred (fun d => OW d 0) c ∗ fam.launched ER (Rd (Bm m)) nb c))
      ∗ (bigSep Finset.univ fun c : Dev nD => iprop((∃ r, prngReg c r) ∗ ∃ W, owes (c : Thread nD τ) (OW c 0) W))) : sProp 𝕄) ⊢ bigSep Finset.univ (E m 0) := by
    rw [← bigSep_sep']
    refine bigSep_mono fun c _ => ?_
    show (iprop((Pipeline.launchCred (fun d => OW d 0) c ∗ fam.launched ER (Rd (Bm m)) nb c) ∗ (∃ r, prngReg c r) ∗ ∃ W, owes (c : Thread nD τ) (OW c 0) W) : sProp 𝕄)
      ⊢ iprop((∃ r, prngReg c r) ∗ (fam.launched ER (Rd (Bm m)) nb c ∗ Pipeline.launchCred (fun d => OW d 0) c) ∗ ∃ W, owes (c : Thread nD τ) (OW c 0) W)
    iintro ⟨⟨Hl, HT⟩, Hp, HO⟩
    isplitl [Hp]; · iexact Hp
    isplitl [HT Hl]; · isplitl [HT] <;> iassumption
    iexact HO
  iintro H
  ihave ⟨Hs, Hr, HG⟩ := hsplit $$ H
  ihave HG := (Entails.of_eq (G_all (F := F))) $$ HG
  imod (funded m) $$ [Hs HG] with HT
  · isplitl [Hs]; · iexact Hs
    iexact HG
  imodintro
  iapply hjoin
  isplitl [HT]; · iexact HT
  iexact Hr

/-- What is read off device `c`'s last state. -/
def QY (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v21) = resV m c)
  ∧ s.sem ((c.tc : Thread nD τ), bS) = 0

theorem uc_mem (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option maxHeartbeats 0 in
theorem read_end (c : Dev nD) (s' : Phys nD τ sig (Elt F)) :
    (iprop((StableHlo.held (c : Thread nD τ) (Pipeline.ucRefs τ sig) (V2 m (outs m) c) ∗ Tk' m c) ∗ SI s') : sProp 𝕄) ⊢ |={Set.univ}=> iprop(⌜QY m c s'.mem⌝ ∗ SI s') := by
  unfold StableHlo.held Tk'
  iintro ⟨⟨Hh, HT⟩, HSI⟩
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imod (fam.barPos_read ER (Rd (Bm m)) c (Rd_later (Bm m) _ 1 (Nat.le_refl 1)) ∅ s') $$ [HT HSI] with ⟨%hz, HSI⟩
  · isplitl [HT] <;> iassumption
  imodintro
  isplitr
  · ipureintro
    exact ⟨⟨(h _ (uc_mem main_arg0 (by decide))).trans (V2_main_arg0 m (outs m) c), (h _ (uc_mem main_arg1 (by decide))).trans (V2_main_arg1 m (outs m) c),
      (h _ (uc_mem main_arg2 (by decide))).trans (V2_main_arg2 m (outs m) c), (h _ (uc_mem main_arg3 (by decide))).trans (V2_main_arg3 m (outs m) c),
      (h _ (uc_mem main_arg4 (by decide))).trans (V2_main_arg4 m (outs m) c), (h _ (uc_mem main_v21 (by decide))).trans ((Function.update_self ..).trans (outs_v21 m c))⟩, hz⟩
  · iexact HSI

theorem only_bar : ∀ sm : SemLoc sig, sm.isScoped .tc = false → sm = bS := by decide +kernel

set_option maxHeartbeats 0 in
set_option backward.isDefEq.respectTransparency.types false in
/-- From any memory with zero counters, every weakly fair execution of `main` on the sixteen devices terminates, faulting
    nowhere, with the arguments as launched, the result at `resV`, and every semaphore counter back at zero. -/
theorem run_main (ρ : Dev nD → PrngReg) :
    θ_run defs (onTc (τ := τ) (main (F := F))) ⟨m, fun _ => 0, ρ⟩ (fun r => (∀ c : Dev nD, QY m c r.2) ∧ r.2.sem = fun _ => 0) := by
  refine Pipeline.θ_run_regions_kit_dev_sems (pcfgs (F := F)) adm (dats m) (0 : ℕ) cellOf_inj EP defs₀ 𝒱₀ (L 10) lv m ρ main
    (segs m 𝒱₀ (L 10) lv (E m) (0 : ℕ) (dats m) (R0 m))
    (fun c Q => by
      rewrite [main_chain c, Seg.run_eq_chain,
        show (segs m 𝒱₀ (L 10) lv (E m) (0 : ℕ) (dats m) (R0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) (fun d => OW d 0) (SiteBlocks.hL 10) (G (F := F)) u₀ (hu₀ (F := F))
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ Tk' m c))
    (hch := fun c => ⟨.rfl, region_pre m c, region_post m c⟩)
    (hinit := ?_) (QY := QY m) (hfin := read_end m)
    (hQ := fun s h hs => ⟨h, sem_eq_zero hs fun c sm hsm => by rw [only_bar sm hsm]; exact (h c).2⟩)
  have hsplit : (bigSep Finset.univ fun c : Dev nD => iprop(unscopedBufs c (fun b => m ((c.tc : Thread nD τ).loc b)) ∗ unscopedSems0 c
        ∗ owes (c.tc : Thread nD τ) (OW c 0) ∅ ∗ Pipeline.launchCred (fun d => OW d 0) c ∗ prngReg c (ρ c) ∗ G (F := F) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (OW c 0) ∅ ∗ Pipeline.launchCred (fun d => OW d 0) c ∗ prngReg c (ρ c) ∗ G (F := F) c))
          : sProp 𝕄) := by
    rw [← bigSep_sep']
    exact bigSep_mono fun c _ => by rw [← Pipeline.unscopedBufs_held (Ix := ℕ) (Name := ℕ) (U := UU) (Lvl := ℕ) c (V0 m c)]; exact BI.Entails.refl _
  iintro ⟨H, -⟩
  ihave H' := hsplit $$ H
  icases H' with ⟨Hh, Hr⟩
  imod (deal m ρ) $$ Hr with HE
  imodintro
  rw [bigSep_sep']
  isplitl [Hh]; · iexact Hh
  iexact HE

end Cert.KernelIdeal.Ring
-- ==== Proof.Frames.lean ====
/-
  The frames of the three programs, and the named constant's statement.
-/
module

public import proofs.«01_k».proof.Defs
public import proofs.«01_k».proof.Proof.Gen.ReferenceIdeal.Run
public import proofs.«01_k».proof.Proof.Launch
public import proofs.«01_k».proof.Proof.KLaunch

@[expose] public section

noncomputable section

namespace Cert.Proof

open Idealize.ShloMosaic Idealize.SL.Sem

/-- The kernel's run read at the arguments. -/
theorem frame_P : Cert.quiescent_Kernel := fun m ρ _ =>
  (θ_run Cert.Kernel.defs _ _).mono (fun _ h => ⟨fun c => ⟨(h.1 c).1.1, (h.1 c).1.2.1, (h.1 c).1.2.2.1, (h.1 c).1.2.2.2.1, (h.1 c).1.2.2.2.2.1⟩, h.2⟩)
    (Cert.Kernel.Ring.run_main (F := Bits) m ρ)

/-- The idealized kernel's run read at the arguments. -/
theorem frame_PI : Cert.quiescent_KernelIdeal := fun m ρ _ =>
  (θ_run Cert.KernelIdeal.defs _ _).mono (fun _ h => ⟨fun c => ⟨(h.1 c).1.1, (h.1 c).1.2.1, (h.1 c).1.2.2.1, (h.1 c).1.2.2.2.1, (h.1 c).1.2.2.2.2.1⟩, h.2⟩)
    (Cert.KernelIdeal.Ring.run_main (F := Ideal) m ρ)

/-- The idealized reference's run read at the arguments; it declares no semaphore. -/
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is named, and its value is the one the table states. -/
theorem preserved : Cert.preserves_Kernel_KernelIdeal := IdealRules.named_const.statement _ _ _ _ _ (by decide)

end Cert.Proof

end
-- ==== Proof.ValMath.lean ====
/-
  The softmax identity over the extended reals: weights from scores that are real or masked, once with the largest score taken
  off and each weight divided, once with the sum divided at the end.
-/
module

public import Idealize.ShloMosaic.Lib.Pointwise

@[expose] public section

noncomputable section

namespace Cert.KernelIdeal.Val

open Idealize.ShloMosaic

/-- A finite sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor goes into a sum. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s h ih =>
    rw [Finset.sum_insert h, Finset.sum_insert h,
      EReal.right_distrib_of_nonneg_of_ne_top (EReal.coe_nonneg.mpr hr) (EReal.coe_ne_top r), ih]

/-- A sum of products of reals is a real. -/
theorem real_sum {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- The largest of finitely many scores, each real or masked, one of them real, is real. -/
theorem max_real {n : ℕ} (a : Fin n → EReal) (h : ∀ j, a j ≠ ⊤) (j₀ : Fin n) (h₀ : a j₀ ≠ ⊥) :
    ∃ M : ℝ, (Finset.univ : Finset (Fin n)).fold max ⊥ a = M := by
  have e : (Finset.univ : Finset (Fin n)).fold max ⊥ a = Finset.univ.sup a := rfl
  obtain ⟨j, -, hj⟩ := Finset.exists_mem_eq_sup (Finset.univ : Finset (Fin n)) ⟨j₀, Finset.mem_univ _⟩ a
  have hb : a j ≠ ⊥ := fun hb => h₀ (le_bot_iff.mp (hb ▸ hj ▸ Finset.le_sup (f := a) (Finset.mem_univ j₀)))
  exact ⟨(a j).toReal, by rw [e, hj, EReal.coe_toReal (h j) hb]⟩

/-- The identity: `S` the scores where `m` holds, everything else masked. -/
theorem softmax {n : ℕ} (m : Fin n → Prop) [DecidablePred m] (S : Fin n → ℝ) (V : Fin n → EReal) (j₀ : Fin n) (h₀ : m j₀) :
    (∑ j, Ideal.exp (if m j then (S j : EReal) else ⊥) * V j) * Ideal.div 1 (∑ j, Ideal.exp (if m j then (S j : EReal) else ⊥))
      = ∑ j, V j * Ideal.div (Ideal.exp ((if m j then (S j : EReal) else ⊥) - (Finset.univ : Finset (Fin n)).fold max ⊥ fun j => if m j then (S j : EReal) else ⊥))
          (∑ j, Ideal.exp ((if m j then (S j : EReal) else ⊥) - (Finset.univ : Finset (Fin n)).fold max ⊥ fun j => if m j then (S j : EReal) else ⊥)) := by
  obtain ⟨M, hM⟩ := max_real (fun j => if m j then (S j : EReal) else ⊥) (fun j => by split <;> simp) j₀ (by simp [h₀])
  rw [hM]
  let E : Fin n → ℝ := fun j => if m j then Real.exp (S j) else 0
  have hE : ∀ j, 0 ≤ E j := fun j => by dsimp only [E]; split; exacts [(Real.exp_pos _).le, le_rfl]
  have e1 : ∀ j, Ideal.exp (if m j then (S j : EReal) else ⊥) = (E j : EReal) := fun j => by
    dsimp only [E]; split <;> simp
  have e2 : ∀ j, Ideal.exp ((if m j then (S j : EReal) else ⊥) - (M : EReal)) = ((E j * Real.exp (-M) : ℝ) : EReal) := fun j => by
    dsimp only [E]; split
    · rw [← EReal.coe_sub, Ideal.exp_coe, sub_eq_add_neg, Real.exp_add]
    · simp
  have hT : 0 < ∑ j, E j := Finset.sum_pos' (fun j _ => hE j) ⟨j₀, Finset.mem_univ _, by simp only [E, if_pos h₀]; exact Real.exp_pos _⟩
  have hq : (0 : ℝ) < Real.exp (-M) := Real.exp_pos _
  simp only [e1, e2, ← coe_sum]
  rw [← Finset.sum_mul, Ideal.div_coe hT.ne', one_mul, sum_mul_real _ _ (one_div_nonneg.mpr hT.le)]
  refine Finset.sum_congr rfl fun j _ => ?_
  rw [Ideal.div_coe (mul_pos hT hq).ne', ← EReal.coe_mul, mul_comm (E j : EReal), mul_assoc, ← EReal.coe_mul]
  congr 2
  field_simp

end Cert.KernelIdeal.Val
-- ==== Proof.ValRef.lean ====
/-
  The reference's result, operation group by operation group, read at an index.
-/
module

public import proofs.«01_k».proof.Proof.ValMath
public import proofs.«01_k».proof.Proof.Gen.ReferenceIdeal.Run

@[expose] public section

noncomputable section

namespace Cert.ReferenceIdeal.Val

open Cert.ReferenceIdeal Cert.ReferenceIdeal.Gen Cert.ReferenceIdeal.Value
open Idealize.ShloMosaic Idealize.ShloMosaic.TcCoe Idealize.ShloMosaic.Pointwise

/-- The queries, head by head. -/
def qR (x : FVec Ideal S32x256x512 .bf16) (wq : FVec Ideal S512x4096 .bf16) : FVec Ideal S32x256x64x64 .bf16 :=
  shapeCast _ (truncf .bf16 (Host.dotGeneral dot_S32x256x512_S512x4096_S32x256x4096_2_0_01_1_n_n none x wq) bitsLt_bf16_f32) shapeCasts_S32x256x4096_S32x256x64x64

/-- Which keys a query looks at: the near ones, the first ones, and for the first queries all. -/
def maskR : IVec S256x256 1 :=
  ori (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 128#32))) (ori (broadcastInDim S256x256 ![0, 1] bcast_S1x256_S256x256_0_1 (cmpi .slt (broadcastInDim S1x256 ![1] bcast_S256_S1x256_1 (iotaInDim S256 32 0)) (broadcastInDim S1x256 ![] bcast_S_S1x256 (constantI S_ 32 32#32)))) (broadcastInDim S256x256 ![0, 1] bcast_S256x1_S256x256_0_1 (cmpi .slt (broadcastInDim S256x1 ![0] bcast_S256_S256x1_0 (iotaInDim S256 32 0)) (broadcastInDim S256x1 ![] bcast_S_S256x1 (constantI S_ 32 32#32)))))

/-- Which queries look at some key. -/
def keepR : IVec S256 1 := Host.reduce IntOp.ori maskR (constantI S_ 1 0#1) reducesTo_S256x256_S256_d1 h_S_

/-- The scores, masked. -/
def sR (q : FVec Ideal S32x256x64x64 .bf16) (k : FVec Ideal S32x256x64x64 .bf16) : FVec Ideal S32x64x256x256 .f32 :=
  select (broadcastInDim S32x64x256x256 ![0, 1, 2, 3] bcast_S1x1x256x256_S32x64x256x256_0_1_2_3 (broadcastInDim S1x1x256x256 ![2, 3] bcast_S256x256_S1x1x256x256_2_3 maskR)) (mulf (extf .f32 (truncf .bf16 (Host.dotGeneral dot_S32x256x64x64_S32x256x64x64_S32x64x256x256_3_3_1_1_02_02 none q k) bitsLt_bf16_f32) bitsLt_bf16_f32) (broadcastInDim S32x64x256x256 ![] bcast_S_S32x64x256x256 (constant S_ .f32 0x3E000000#32))) (broadcastInDim S32x64x256x256 ![] bcast_S_S32x64x256x256 (id (constant S_ .f32 0xFF800000#32)))

/-- The weights before they are divided. -/
def eR (s : FVec Ideal S32x64x256x256 .f32) : FVec Ideal S32x64x256x256 .f32 :=
  Host.exp (subf s (broadcastInDim S32x64x256x256 ![0, 1, 2, 3] bcast_S32x64x256x1_S32x64x256x256_0_1_2_3 (broadcastInDim S32x64x256x1 ![0, 1, 2] bcast_S32x64x256_S32x64x256x1_0_1_2 (Host.reduce FloatOps.maximumf s (constant S_ .f32 0xFF800000#32) reducesTo_S32x64x256x256_S32x64x256_d3 h_S_))))

/-- The weights. -/
def wR (e : FVec Ideal S32x64x256x256 .f32) : FVec Ideal S32x64x256x256 .f32 :=
  select (broadcastInDim S32x64x256x256 ![0, 1, 2, 3] bcast_S1x1x256x1_S32x64x256x256_0_1_2_3 (broadcastInDim S1x1x256x1 ![2] bcast_S256_S1x1x256x1_2 keepR)) (Host.divf e (broadcastInDim S32x64x256x256 ![0, 1, 2, 3] bcast_S32x64x256x1_S32x64x256x256_0_1_2_3 (select (broadcastInDim S32x64x256x1 ![0, 1, 2, 3] bcast_S1x1x256x1_S32x64x256x1_0_1_2_3 (broadcastInDim S1x1x256x1 ![2] bcast_S256_S1x1x256x1_2 keepR)) (broadcastInDim S32x64x256x1 ![0, 1, 2] bcast_S32x64x256_S32x64x256x1_0_1_2 (Host.reduceAdd e (constant S_ .f32 0x00000000#32) reducesTo_S32x64x256x256_S32x64x256_d3 h_S_)) (broadcastInDim S32x64x256x1 ![] bcast_S_S32x64x256x1 (id (constant S_ .f32 0x3F800000#32)))))) (broadcastInDim S32x64x256x256 ![] bcast_S_S32x64x256x256 (id (constant S_ .f32 0x00000000#32)))

/-- The contexts, the heads side by side. -/
def cR (v : FVec Ideal S32x256x64x64 .bf16) (w : FVec Ideal S32x64x256x256 .f32) : FVec Ideal S32x256x4096 .f32 :=
  shapeCast _ (transpose S32x256x64x64 [0, 3, 1, 2] (Host.dotGeneral dot_S32x256x64x64_S32x64x256x256_S32x64x64x256_1_3_3_2_02_01 none (extf .f32 v bitsLt_bf16_f32) w) transposes_S32x64x64x256_S32x256x64x64_0_3_1_2) shapeCasts_S32x256x64x64_S32x256x4096

/-- The result. -/
def oR (c : FVec Ideal S32x256x4096 .f32) (wo : FVec Ideal S4096x512 .bf16) : FVec Ideal S32x256x512 .f32 :=
  Host.dotGeneral dot_S32x256x4096_S4096x512_S32x256x512_2_0_01_1_n_n none c (extf .f32 wo bitsLt_bf16_f32)

theorem res_eq (m : (ℓ : Loc nD τ sig) → Buf (Elt Ideal) ℓ) (c : Dev nD) :
    res_main_v47 m c = oR (cR (m (c.tc.loc main_arg3)) (wR (eR (sR (qR (m (c.tc.loc main_arg0)) (m (c.tc.loc main_arg1))) (m (c.tc.loc main_arg2)))))) (m (c.tc.loc main_arg4)) := rfl

theorem neg_inf : Ideal.ofBits .f32 0xFF800000#32 = ⊥ := by simp [Ideal.ofBits, Ideal.ieee]
theorem eighth : Ideal.ofBits .f32 0x3E000000#32 = ((0.125 : ℝ) : EReal) := by
  simp [Ideal.ofBits, Ideal.ieee, -EReal.coe_mul]; norm_num
theorem eighth' : Ideal.ofBits .bf16 0x3E00#16 = ((0.125 : ℝ) : EReal) := by
  simp [Ideal.ofBits, Ideal.ieee, -EReal.coe_mul]; norm_num

theorem or_one (y : BitVec 1) : IntOp.ori 1#1 y = 1#1 := by revert y; decide

theorem qR_at (x : FVec Ideal S32x256x512 .bf16) (wq : FVec Ideal S512x4096 .bf16) (b : Fin 32) (i : Fin 256) (h d : Fin 64) :
    qR x wq (ix4 b i h d) = ∑ k : Fin 512, x (ix3 b i k) * wq (ix2 k ⟨h.val * 64 + d.val, by omega⟩) := by
  pointwise [qR]

theorem maskR_at (i j : Fin 256) : maskR (ix2 i j)
    = IntOp.ori (IntOp.cmpi CmpIPredicate.sle (IntOp.absi (IntOp.subi (BitVec.ofNat 32 i.val) (BitVec.ofNat 32 j.val))) 128#32)
      (IntOp.ori (IntOp.cmpi CmpIPredicate.slt (BitVec.ofNat 32 j.val) 32#32) (IntOp.cmpi CmpIPredicate.slt (BitVec.ofNat 32 i.val) 32#32)) := by
  pointwise [maskR]

/-- A query looks at its own place. -/
theorem mask_self (i : Fin 256) : maskR (ix2 i i) = 1#1 := by
  rw [maskR_at, show IntOp.subi (BitVec.ofNat 32 i.val) (BitVec.ofNat 32 i.val) = 0#32 from BitVec.sub_self _]
  exact or_one _

theorem keepR_at (i : Fin 256) : keepR (ix1 i) = 1#1 := by
  have e : keepR (ix1 i) = Finset.fold IntOp.ori (0#1) (fun x => maskR (ix2 i x)) Finset.univ := by pointwise [keepR]
  rw [e, ← Finset.insert_erase (Finset.mem_univ i), Finset.fold_insert (Finset.notMem_erase _ _), mask_self]
  exact or_one _

/-- The keys query `i` looks at. -/
abbrev mk (i j : Fin 256) : Prop := maskR (ix2 i j) = 1#1

theorem sR_at (q k : FVec Ideal S32x256x64x64 .bf16) (b : Fin 32) (h : Fin 64) (i j : Fin 256) :
    sR q k (ix4 b h i j) = if mk i j then (∑ x : Fin 64, q (ix4 b i h x) * k (ix4 b j h x)) * ((0.125 : ℝ) : EReal) else ⊥ := by
  have e : sR q k (ix4 b h i j) = Scalar.select (maskR (ix2 i j)) ((∑ x, q (ix4 b i h x) * k (ix4 b j h x)) * Ideal.ofBits FTy.f32 0x3E000000#32)
      (Ideal.ofBits FTy.f32 0xFF800000#32) := by pointwise [sR]; rfl
  rw [e, eighth, neg_inf]; rfl

theorem eR_at (s : FVec Ideal S32x64x256x256 .f32) (b : Fin 32) (h : Fin 64) (i j : Fin 256) :
    eR s (ix4 b h i j) = Ideal.exp (s (ix4 b h i j) - (Finset.univ : Finset (Fin 256)).fold max ⊥ fun x => s (ix4 b h i x)) := by
  rw [← neg_inf]; pointwise [eR]

theorem wR_at (e : FVec Ideal S32x64x256x256 .f32) (b : Fin 32) (h : Fin 64) (i j : Fin 256) :
    wR e (ix4 b h i j) = Ideal.div (e (ix4 b h i j)) (∑ x : Fin 256, e (ix4 b h i x)) := by
  pointwise [wR]
  rw [keepR_at]; rfl

theorem cR_at (v : FVec Ideal S32x256x64x64 .bf16) (w : FVec Ideal S32x64x256x256 .f32) (b : Fin 32) (i : Fin 256) (t : Fin 4096) :
    cR v w (ix3 b i t) = ∑ x : Fin 256, v (ix4 b x ⟨t.val / 64, by omega⟩ ⟨t.val % 64, by omega⟩) * w (ix4 b ⟨t.val / 64, by omega⟩ i x) := by
  pointwise [cR]

theorem oR_at (c : FVec Ideal S32x256x4096 .f32) (wo : FVec Ideal S4096x512 .bf16) (b : Fin 32) (i : Fin 256) (e : Fin 512) :
    oR c wo (ix3 b i e) = ∑ t : Fin 4096, c (ix3 b i t) * wo (ix2 t e) := by
  pointwise [oR]

/-- One context: the head is `t / 64`, the column `t % 64`. -/
def ctx (q k v : FVec Ideal S32x256x64x64 .bf16) (b : Fin 32) (i : Fin 256) (t : Fin 4096) : EReal := cR v (wR (eR (sR q k))) (ix3 b i t)

/-- The context of real scores `S`, as the sum of the values by the undivided weights, divided at the end. -/
theorem ctx_eq (q k v : FVec Ideal S32x256x64x64 .bf16) (b : Fin 32) (i : Fin 256) (t : Fin 4096) (S : Fin 256 → ℝ)
    (hS : ∀ j, (∑ x : Fin 64, q (ix4 b i ⟨t.val / 64, by omega⟩ x) * k (ix4 b j ⟨t.val / 64, by omega⟩ x)) * ((0.125 : ℝ) : EReal) = (S j : EReal)) :
    (∑ j : Fin 256, Ideal.exp (if mk i j then (S j : EReal) else ⊥) * v (ix4 b j ⟨t.val / 64, by omega⟩ ⟨t.val % 64, by omega⟩))
      * Ideal.div 1 (∑ j : Fin 256, Ideal.exp (if mk i j then (S j : EReal) else ⊥)) = ctx q k v b i t := by
  rw [Cert.KernelIdeal.Val.softmax (fun j => mk i j) S _ i (mask_self i)]
  unfold ctx
  rw [cR_at]
  refine Finset.sum_congr rfl fun j _ => ?_
  rw [wR_at]
  simp only [eR_at, sR_at, hS]

end Cert.ReferenceIdeal.Val
-- ==== Proof.ValHost.lean ====
/-
  What the body's staging buffers and blocks hold, in the arguments' own coordinates.
-/
module

public import proofs.«01_k».proof.Proof.ValRef
public import proofs.«01_k».proof.Proof.Body

@[expose] public section

noncomputable section

namespace Cert.KernelIdeal.Val

open Cert.KernelIdeal Cert.KernelIdeal.Gen Cert.KernelIdeal.Ring
open Idealize.ShloMosaic Idealize.ShloMosaic.TcCoe Idealize.ShloMosaic.Pointwise Idealize.ShloMosaic.StableHlo Idealize.ShloMosaic.Pipeline
open Cert.ReferenceIdeal.Val (mk maskR maskR_at eighth')

variable (m : (ℓ : Loc nD τ sig) → Buf (Elt Ideal) ℓ) (c : Dev nD)

/-- A window over a whole array reads the array. -/
theorem rd0 (X : main_v8.ty.Contents (Elt Ideal)) : (win0_0.blk (0 : Fin 1)).view.read (Elt Ideal) X = X := by
  funext j
  show X _ = X j
  refine congrArg X (funext fun a => Fin.ext ?_)
  match a with
  | ⟨0, _⟩ => show 0 * 512 + 1 * (j ⟨0, _⟩).val = _; omega
  | ⟨1, _⟩ => show 0 * 512 + 1 * (j ⟨1, _⟩).val = _; omega

theorem rd1 (X : main_arg1.ty.Contents (Elt Ideal)) : (win0_1.blk (0 : Fin 1)).view.read (Elt Ideal) X = X := by
  funext j
  show X _ = X j
  refine congrArg X (funext fun a => Fin.ext ?_)
  match a with
  | ⟨0, _⟩ => show 0 * 512 + 1 * (j ⟨0, _⟩).val = _; omega
  | ⟨1, _⟩ => show 0 * 256 + 1 * (j ⟨1, _⟩).val = _; omega

theorem rd2 (X : main_arg4.ty.Contents (Elt Ideal)) : (win0_2.blk (0 : Fin 1)).view.read (Elt Ideal) X = X := by
  funext j
  show X _ = X j
  refine congrArg X (funext fun a => Fin.ext ?_)
  match a with
  | ⟨0, _⟩ => show 0 * 256 + 1 * (j ⟨0, _⟩).val = _; omega
  | ⟨1, _⟩ => show 0 * 512 + 1 * (j ⟨1, _⟩).val = _; omega

theorem rd3 (X : main_v18.ty.Contents (Elt Ideal)) : (win0_3.blk (0 : Fin 1)).view.read (Elt Ideal) X = X := by
  funext j
  show X _ = X j
  refine congrArg X (funext fun a => Fin.ext ?_)
  match a with
  | ⟨0, _⟩ => show 0 * 128 + 1 * (j ⟨0, _⟩).val = _; omega
  | ⟨1, _⟩ => show 0 * 256 + 1 * (j ⟨1, _⟩).val = _; omega
  | ⟨2, _⟩ => show 0 * 64 + 1 * (j ⟨2, _⟩).val = _; omega

theorem rd4 (X : main_v20.ty.Contents (Elt Ideal)) : (win0_4.blk (0 : Fin 1)).view.read (Elt Ideal) X = X := rd3 X

theorem rd5 (X : main_v21.ty.Contents (Elt Ideal)) : (win0_5.blk (0 : Fin 1)).view.read (Elt Ideal) X = X := by
  funext j
  show X _ = X j
  refine congrArg X (funext fun a => Fin.ext ?_)
  match a with
  | ⟨0, _⟩ => show 0 * 2 + 1 * (j ⟨0, _⟩).val = _; omega
  | ⟨1, _⟩ => show 0 * 256 + 1 * (j ⟨1, _⟩).val = _; omega
  | ⟨2, _⟩ => show 0 * 512 + 1 * (j ⟨2, _⟩).val = _; omega

/-- The device's first batch, as the program computes it. -/
theorem start : ∀ c : Dev nD, BitVec.toInt ((select (cmpi .slt (muli (Host.remui (Host.divui (constantI S_ 32 c.word) (constantI S_ 32 1#32)) (constantI S_ 32 16#32)) (constantI S_ 32 2#32)) (constantI S_ 32 0#32))
    (addi (muli (Host.remui (Host.divui (constantI S_ 32 c.word) (constantI S_ 32 1#32)) (constantI S_ 32 16#32)) (constantI S_ 32 2#32)) (constantI S_ 32 32#32))
    (muli (Host.remui (Host.divui (constantI S_ 32 c.word) (constantI S_ 32 1#32)) (constantI S_ 32 16#32)) (constantI S_ 32 2#32)) : IVec S_ 32) (Shape.Idx.first h_S_)) = 2 * (c.val : ℤ) := by
  decide +kernel

theorem v8 : V1 m c main_v8 = (mulf (shapeCast S512x512 (m (c.tc.loc main_arg0)) shapeCasts_S2x256x512_S512x512) (broadcastInDim S512x512 ![] bcast_S_S512x512 (constant S_ .bf16 0x3E00#16)) : FVec Ideal S512x512 .bf16) := by
  unfold V1 hostOps0
  after_results_simp
  rfl

/-- Two batches of a cached tensor, heads first, from the device's own batch on. -/
def kv (x : FVec Ideal S32x256x64x64 .bf16) : FVec Ideal S128x256x64 .bf16 :=
  shapeCast S128x256x64 (transpose S2x64x256x64 [0, 2, 1, 3] (Host.dynamicSlice S2x256x64x64 x (![2 * (c.val : ℤ), 0, 0, 0] : Fin 4 → ℤ) sliceFits_S32x256x64x64_S2x256x64x64)
    transposes_S2x256x64x64_S2x64x256x64_0_2_1_3) shapeCasts_S2x64x256x64_S128x256x64

theorem v18 : V1 m c main_v18 = kv c (m (c.tc.loc main_arg2)) := by
  unfold V1 hostOps0
  after_results_simp
  unfold kv
  refine congrArg (fun s => shapeCast S128x256x64 (transpose S2x64x256x64 [0, 2, 1, 3] (Host.dynamicSlice S2x256x64x64 (m (c.tc.loc main_arg2)) s sliceFits_S32x256x64x64_S2x256x64x64)
    transposes_S2x256x64x64_S2x64x256x64_0_2_1_3) shapeCasts_S2x64x256x64_S128x256x64) (funext fun k => ?_)
  match k with
  | 0 =>
    dsimp only [Matrix.cons_val_zero]
    after_results_simp
    exact start c
  | 1 => after_results_simp; rfl
  | 2 => after_results_simp; rfl
  | 3 => rfl

theorem v20 : V1 m c main_v20 = kv c (m (c.tc.loc main_arg3)) := by
  unfold V1 hostOps0
  after_results_simp
  unfold kv
  refine congrArg (fun s => shapeCast S128x256x64 (transpose S2x64x256x64 [0, 2, 1, 3] (Host.dynamicSlice S2x256x64x64 (m (c.tc.loc main_arg3)) s sliceFits_S32x256x64x64_S2x256x64x64)
    transposes_S2x256x64x64_S2x64x256x64_0_2_1_3) shapeCasts_S2x64x256x64_S128x256x64) (funext fun k => ?_)
  match k with
  | 0 =>
    dsimp only [Matrix.cons_val_zero]
    after_results_simp
    exact start c
  | 1 => after_results_simp; rfl
  | 2 => after_results_simp; rfl
  | 3 => rfl

theorem kv_at (x : FVec Ideal S32x256x64x64 .bf16) (b : Fin 2) (h : Fin 64) (r : Fin 256) (u : Fin 64) :
    kv c x (ix3 (⟨64 * b.val + h.val, by omega⟩ : Fin 128) r u) = x (ix4 ⟨2 * c.val + b.val, by have : c.val < 16 := c.isLt; omega⟩ r h u) := by
  have hc : c.val < 16 := c.isLt
  unfold kv
  have h0 : Host.clampedStart S32x256x64x64 S2x256x64x64 rfl (![2 * (c.val : ℤ), 0, 0, 0] : Fin 4 → ℤ) 0 = 2 * c.val := by
    simp [Host.clampedStart]; omega
  have h1 : Host.clampedStart S32x256x64x64 S2x256x64x64 rfl (![2 * (c.val : ℤ), 0, 0, 0] : Fin 4 → ℤ) 1 = 0 := by simp [Host.clampedStart]
  have h2 : Host.clampedStart S32x256x64x64 S2x256x64x64 rfl (![2 * (c.val : ℤ), 0, 0, 0] : Fin 4 → ℤ) 2 = 0 := by simp [Host.clampedStart]
  have h3 : Host.clampedStart S32x256x64x64 S2x256x64x64 rfl (![2 * (c.val : ℤ), 0, 0, 0] : Fin 4 → ℤ) 3 = 0 := by simp [Host.clampedStart]
  pointwise []
  simp only [h0, h1, h2, h3, Nat.zero_add]

theorem stQ_eq : stQ m c = m (c.tc.loc main_arg1) := (rd1 _).trans (V1_of m c main_arg1 (by decide))
theorem stO_eq : stO m c = m (c.tc.loc main_arg4) := (rd2 _).trans (V1_of m c main_arg4 (by decide))
theorem stK_eq : stK m c = kv c (m (c.tc.loc main_arg2)) := (rd3 _).trans (v18 m c)
theorem stV_eq : stV m c = kv c (m (c.tc.loc main_arg3)) := (rd4 _).trans (v20 m c)

theorem stX_at (b : Fin 2) (i : Fin 256) (k : Fin 512) (x : FVec Ideal S2x256x512 .bf16) (hx : m (c.tc.loc main_arg0) = x) :
    (stX m c : FVec Ideal S512x512 .bf16) (ix2 ⟨256 * b.val + i.val, by omega⟩ k) = x (ix3 b i k) * ((0.125 : ℝ) : EReal) := by
  have e : ∀ x : FVec Ideal S2x256x512 .bf16, (mulf (shapeCast S512x512 x shapeCasts_S2x256x512_S512x512) (broadcastInDim S512x512 ![] bcast_S_S512x512 (constant S_ .bf16 0x3E00#16)) : FVec Ideal S512x512 .bf16)
      (ix2 ⟨256 * b.val + i.val, by omega⟩ k) = x (ix3 b i k) * Ideal.ofBits .bf16 0x3E00#16 := fun x => by pointwise []
  rw [show stX m c = _ from (rd0 _).trans (v8 m c), hx]
  exact (e x).trans (by rw [eighth'])

/-- The result array is the output block. -/
theorem res_gen (d : Dat τ (Elt Ideal) ℕ ℕ UU ℕ cfg0 c) (X : main_v21.ty.Contents (Elt Ideal)) (h : ∀ t, d.after (5 : Fin 6) t = X) :
    d.arrAt (5 : Fin 6) cfg0.N = X := by
  refine d.arrAt_eq_of_cover (5 : Fin 6) X (fun t _ => ?_) (fun i => ?_)
  · obtain rfl : t = (0 : Fin 1) := Subsingleton.elim (α := Fin 1) _ _
    refine Eq.trans ?_ (rd5 X).symm
    funext y
    exact (congrFun (h (0 : Fin 1)) _).trans rfl
  · refine ⟨(0 : Fin 1), by decide, ?_⟩
    have e : (win0_5.blk (0 : Fin 1)).view.emb i = i := by
      funext a
      refine Fin.ext ?_
      match a with
      | ⟨0, _⟩ => show 0 * 2 + 1 * (i ⟨0, _⟩).val = _; omega
      | ⟨1, _⟩ => show 0 * 256 + 1 * (i ⟨1, _⟩).val = _; omega
      | ⟨2, _⟩ => show 0 * 512 + 1 * (i ⟨2, _⟩).val = _; omega
    exact e ▸ View.emb_mem_set _ _

theorem after_out (t : Fin cfg0.N) : (dats m 0 c).after (5 : Fin 6) t = outAt m c := by
  unfold dats
  generalize outAt m c = X
  rfl

theorem res_out : (dats m 0 c).arrAt (5 : Fin 6) cfg0.N = outAt m c := res_gen c (dats m 0 c) (outAt m c) (after_out m c)

end Cert.KernelIdeal.Val
-- ==== Proof.ValSum.lean ====
/-
  The sum the body ends with, as one formula of the blocks that arrive: each of the sixteen computations is the same function
  of the block's weights and of the place of its four heads.
-/
module

public import proofs.«01_k».proof.Proof.Body

@[expose] public section

noncomputable section

namespace Cert.KernelIdeal.Ring

open Cert.KernelIdeal Cert.KernelIdeal.Gen
open Idealize.ShloMosaic Idealize.ShloMosaic.TcCoe

variable {F : FTy → Type} [FloatOps F] [Named F]

variable (B : Blocks F) (c : Dev nD) (X0 : cc0_stg0_0.ty.Contents (Elt F)) (Kc : cc0_stg3_0.ty.Contents (Elt F))
  (Vc : cc0_stg4_0.ty.Contents (Elt F))

/-- The activations as the body loads them. -/
def xr : FVec F S512x512 .bf16 :=
  shapeCast S512x512 (View.readAt (Elt F) (Memref.whole cc0_stg0_0).view (Rect.unit ![0, 0] S512x512.size inb_S512x512_S512x512_0_0).toLoadRect X0) shapeCasts_S512x512_S512x512

/-- The queries of one block of four heads. -/
def qa (wq : FVec F S512x256 .bf16) : FVec F S512x256 .bf16 :=
  truncf .bf16 (matmul dot_S512x512_S512x256_S512x256_1_0_0_1_n_n none (xr X0) wq (constant S512x256 .f32 0x00000000#32)) bitsLt_bf16_f32

/-- One head's keys, loaded at the offsets `o`, -/
def kt (o : Fin 3 → Nat) (h : ∀ a, o a + S1x256x64.size a ≤ S128x256x64.size a) : FVec F S256x64 .bf16 :=
  shapeCast S256x64 (shapeCast S1x256x64 (View.readAt (Elt F) (Memref.whole cc0_stg3_0).view (Rect.unit (s := S128x256x64) o S1x256x64.size h).toLoadRect Kc) shapeCasts_S1x256x64_S1x256x64) shapeCasts_S1x256x64_S256x64
/-- and its values. -/
def vt (o : Fin 3 → Nat) (h : ∀ a, o a + S1x256x64.size a ≤ S128x256x64.size a) : FVec F S256x64 .bf16 :=
  shapeCast S256x64 (shapeCast S1x256x64 (View.readAt (Elt F) (Memref.whole cc0_stg4_0).view (Rect.unit (s := S128x256x64) o S1x256x64.size h).toLoadRect Vc) shapeCasts_S1x256x64_S1x256x64) shapeCasts_S1x256x64_S256x64

/-- The mask as it is read back. -/
def ng : Vec F S256x256 .f32 :=
  (Memref.whole cc0_scratch6).view.readCov [⟨Rect.unit ![0, 0] S256x256.size inb_S256x256_S256x256_0_0, k0_pay4⟩]
    (Rect.unit ![0, 0] S256x256.size inb_S256x256_S256x256_0_0).toLoadRect

/-- The places of a block's heads: which batch, which of the four heads. -/
abbrev Off := Fin 2 → Fin 4 → Fin 3 → Nat
/-- They lie inside the keys. -/
abbrev OffIn (o : Off) : Prop := ∀ b h, ∀ a, o b h a + S1x256x64.size a ≤ S128x256x64.size a

/-- The eight heads' contexts, the last written first, over what was written before. -/
def tiles (wq : FVec F S512x256 .bf16) (o : Off) (ho : OffIn o) (L : List (View.Piece (Elt F) cc0_scratch4.ty.shape cc0_scratch4.ty.elt)) :
    List (View.Piece (Elt F) cc0_scratch4.ty.shape cc0_scratch4.ty.elt) :=
  ⟨Rect.unit ![256, 192] S256x64.size inb_S512x256_S256x64_256_192, k0_pay1 (extractStridedSlice S256x64 ![256, 192] (qa X0 wq) slices_S512x256_o256_192_S256x64) (kt Kc (o 1 3) (ho 1 3)) (vt Vc (o 1 3) (ho 1 3)) ng⟩
  :: ⟨Rect.unit ![256, 128] S256x64.size inb_S512x256_S256x64_256_128, k0_pay1 (extractStridedSlice S256x64 ![256, 128] (qa X0 wq) slices_S512x256_o256_128_S256x64) (kt Kc (o 1 2) (ho 1 2)) (vt Vc (o 1 2) (ho 1 2)) ng⟩
  :: ⟨Rect.unit ![256, 64] S256x64.size inb_S512x256_S256x64_256_64, k0_pay1 (extractStridedSlice S256x64 ![256, 64] (qa X0 wq) slices_S512x256_o256_64_S256x64) (kt Kc (o 1 1) (ho 1 1)) (vt Vc (o 1 1) (ho 1 1)) ng⟩
  :: ⟨Rect.unit ![256, 0] S256x64.size inb_S512x256_S256x64_256_0, k0_pay1 (extractStridedSlice S256x64 ![256, 0] (qa X0 wq) slices_S512x256_o256_0_S256x64) (kt Kc (o 1 0) (ho 1 0)) (vt Vc (o 1 0) (ho 1 0)) ng⟩
  :: ⟨Rect.unit ![0, 192] S256x64.size inb_S512x256_S256x64_0_192, k0_pay1 (extractStridedSlice S256x64 ![0, 192] (qa X0 wq) slices_S512x256_o0_192_S256x64) (kt Kc (o 0 3) (ho 0 3)) (vt Vc (o 0 3) (ho 0 3)) ng⟩
  :: ⟨Rect.unit ![0, 128] S256x64.size inb_S512x256_S256x64_0_128, k0_pay1 (extractStridedSlice S256x64 ![0, 128] (qa X0 wq) slices_S512x256_o0_128_S256x64) (kt Kc (o 0 2) (ho 0 2)) (vt Vc (o 0 2) (ho 0 2)) ng⟩
  :: ⟨Rect.unit ![0, 64] S256x64.size inb_S512x256_S256x64_0_64, k0_pay1 (extractStridedSlice S256x64 ![0, 64] (qa X0 wq) slices_S512x256_o0_64_S256x64) (kt Kc (o 0 1) (ho 0 1)) (vt Vc (o 0 1) (ho 0 1)) ng⟩
  :: ⟨Rect.unit ![0, 0] S256x64.size inb_S512x256_S256x64_0_0, k0_pay1 (extractStridedSlice S256x64 ![0, 0] (qa X0 wq) slices_S512x256_o0_0_S256x64) (kt Kc (o 0 0) (ho 0 0)) (vt Vc (o 0 0) (ho 0 0)) ng⟩
  :: L

/-- One block's contribution to the sum. -/
def part (wq : FVec F S512x256 .bf16) (wo : FVec F S256x512 .bf16) (o : Off) (ho : OffIn o)
    (L : List (View.Piece (Elt F) cc0_scratch4.ty.shape cc0_scratch4.ty.elt)) : FVec F S512x512 .f32 :=
  matmul dot_S512x256_S256x512_S512x512_1_0_0_1_n_n none
    (truncf .bf16 ((Memref.whole cc0_scratch4).view.readCov (tiles X0 Kc Vc wq o ho L) (Rect.unit ![0, 0] S512x256.size inb_S512x256_S512x256_0_0).toLoadRect) bitsLt_bf16_f32)
    wo (constant S512x512 .f32 0x00000000#32)

/-- The places for the device's own block, -/
abbrev o1 : Off := fun b h => k0_off1 c (BitVec.ofNat 32 (64 * b.val)) (BitVec.ofNat 32 h.val)
/-- for the block that comes `s + 1` places from the left, -/
abbrev o2 (s : Fin 8) : Off := fun b h => k0_off2 c (BitVec.ofNat 32 (64 * b.val)) (BitVec.ofNat 32 (1 + s.val)) (BitVec.ofNat 32 h.val)
/-- and from the right. -/
abbrev o3 (s : Fin 7) : Off := fun b h => k0_off3 c (BitVec.ofNat 32 (64 * b.val)) (BitVec.ofNat 32 (1 + s.val)) (BitVec.ofNat 32 h.val)

set_option maxHeartbeats 400000 in
theorem p0 : s0.sl.v289 B c X0 Kc Vc = part X0 Kc Vc (s0.sl.v64 B c) (s0.sl.v66 B c) (o1 c) (k0_off1_inb c) [] := rfl
set_option maxHeartbeats 400000 in
theorem pf1 : s1.sl.v602 B c X0 Kc Vc = part X0 Kc Vc (s1.sl.v377 B c) (s1.sl.v379 B c) (o2 c 0) (fun b h => k0_off2_inb c b 0 h) [] := rfl
set_option maxHeartbeats 400000 in
theorem pb1 : s1.sl.v831 B c X0 Kc Vc = part X0 Kc Vc (s1.sl.v606 B c) (s1.sl.v608 B c) (o3 c 0) (fun b h => k0_off3_inb c b 0 h) (s1.sl.HC_8 B c X0 Kc Vc) := rfl
set_option maxHeartbeats 400000 in
theorem pf2 : s2.sl.v1163 B c X0 Kc Vc = part X0 Kc Vc (s2.sl.v938 B c) (s2.sl.v940 B c) (o2 c 1) (fun b h => k0_off2_inb c b 1 h) [] := rfl
set_option maxHeartbeats 400000 in
theorem pb2 : s2.sl.v1392 B c X0 Kc Vc = part X0 Kc Vc (s2.sl.v1167 B c) (s2.sl.v1169 B c) (o3 c 1) (fun b h => k0_off3_inb c b 1 h) (s2.sl.HC_8 B c X0 Kc Vc) := rfl
set_option maxHeartbeats 400000 in
theorem pf3 : s3.sl.v1724 B c X0 Kc Vc = part X0 Kc Vc (s3.sl.v1499 B c) (s3.sl.v1501 B c) (o2 c 2) (fun b h => k0_off2_inb c b 2 h) [] := rfl
set_option maxHeartbeats 400000 in
theorem pb3 : s3.sl.v1953 B c X0 Kc Vc = part X0 Kc Vc (s3.sl.v1728 B c) (s3.sl.v1730 B c) (o3 c 2) (fun b h => k0_off3_inb c b 2 h) (s3.sl.HC_8 B c X0 Kc Vc) := rfl
set_option maxHeartbeats 400000 in
theorem pf4 : s4.sl.v2285 B c X0 Kc Vc = part X0 Kc Vc (s4.sl.v2060 B c) (s4.sl.v2062 B c) (o2 c 3) (fun b h => k0_off2_inb c b 3 h) [] := rfl
set_option maxHeartbeats 400000 in
theorem pb4 : s4.sl.v2514 B c X0 Kc Vc = part X0 Kc Vc (s4.sl.v2289 B c) (s4.sl.v2291 B c) (o3 c 3) (fun b h => k0_off3_inb c b 3 h) (s4.sl.HC_8 B c X0 Kc Vc) := rfl
set_option maxHeartbeats 400000 in
theorem pf5 : s5.sl.v2846 B c X0 Kc Vc = part X0 Kc Vc (s5.sl.v2621 B c) (s5.sl.v2623 B c) (o2 c 4) (fun b h => k0_off2_inb c b 4 h) [] := rfl
set_option maxHeartbeats 400000 in
theorem pb5 : s5.sl.v3075 B c X0 Kc Vc = part X0 Kc Vc (s5.sl.v2850 B c) (s5.sl.v2852 B c) (o3 c 4) (fun b h => k0_off3_inb c b 4 h) (s5.sl.HC_8 B c X0 Kc Vc) := rfl
set_option maxHeartbeats 400000 in
theorem pf6 : s6.sl.v3407 B c X0 Kc Vc = part X0 Kc Vc (s6.sl.v3182 B c) (s6.sl.v3184 B c) (o2 c 5) (fun b h => k0_off2_inb c b 5 h) [] := rfl
set_option maxHeartbeats 400000 in
theorem pb6 : s6.sl.v3636 B c X0 Kc Vc = part X0 Kc Vc (s6.sl.v3411 B c) (s6.sl.v3413 B c) (o3 c 5) (fun b h => k0_off3_inb c b 5 h) (s6.sl.HC_8 B c X0 Kc Vc) := rfl
set_option maxHeartbeats 400000 in
theorem pf7 : s7.sl.v3948 B c X0 Kc Vc = part X0 Kc Vc (s7.sl.v3723 B c) (s7.sl.v3725 B c) (o2 c 6) (fun b h => k0_off2_inb c b 6 h) [] := rfl
set_option maxHeartbeats 400000 in
theorem pb7 : s7.sl.v4177 B c X0 Kc Vc = part X0 Kc Vc (s7.sl.v3952 B c) (s7.sl.v3954 B c) (o3 c 6) (fun b h => k0_off3_inb c b 6 h) (s7.sl.HC_8 B c X0 Kc Vc) := rfl

/-- The sum read back is the sum last written. -/
theorem rdAcc (w : Vec F S512x512 .f32) (L : List (View.Piece (Elt F) cc0_scratch5.ty.shape cc0_scratch5.ty.elt)) :
    (Memref.whole cc0_scratch5).view.readCov (⟨Rect.unit ![0, 0] S512x512.size inb_S512x512_S512x512_0_0, w⟩ :: L)
      (Rect.unit ![0, 0] S512x512.size inb_S512x512_S512x512_0_0).toLoadRect = w :=
  View.readCov_cons_toLoadRect _ _ _ _

/-- One step of the sum: two blocks' contributions, -/
def step2 (a f b : FVec F S512x512 .f32) : FVec F S512x512 .f32 := shapeCast S512x512 (addf (addf a f) b) shapeCasts_S512x512_S512x512
/-- or one. -/
def step1 (a f : FVec F S512x512 .f32) : FVec F S512x512 .f32 := shapeCast S512x512 (addf a f) shapeCasts_S512x512_S512x512

theorem a1 : s1.sl.v837 B c X0 Kc Vc = step2 (s0.sl.v292 B c X0 Kc Vc) (s1.sl.v602 B c X0 Kc Vc) (s1.sl.v831 B c X0 Kc Vc) :=
  congrArg (fun z => step2 z (s1.sl.v602 B c X0 Kc Vc) (s1.sl.v831 B c X0 Kc Vc)) (rdAcc (s0.sl.v292 B c X0 Kc Vc) _)
theorem a2 : s2.sl.v1398 B c X0 Kc Vc = step2 (s1.sl.v837 B c X0 Kc Vc) (s2.sl.v1163 B c X0 Kc Vc) (s2.sl.v1392 B c X0 Kc Vc) :=
  congrArg (fun z => step2 z (s2.sl.v1163 B c X0 Kc Vc) (s2.sl.v1392 B c X0 Kc Vc)) (rdAcc (s1.sl.v837 B c X0 Kc Vc) _)
theorem a3 : s3.sl.v1959 B c X0 Kc Vc = step2 (s2.sl.v1398 B c X0 Kc Vc) (s3.sl.v1724 B c X0 Kc Vc) (s3.sl.v1953 B c X0 Kc Vc) :=
  congrArg (fun z => step2 z (s3.sl.v1724 B c X0 Kc Vc) (s3.sl.v1953 B c X0 Kc Vc)) (rdAcc (s2.sl.v1398 B c X0 Kc Vc) _)
theorem a4 : s4.sl.v2520 B c X0 Kc Vc = step2 (s3.sl.v1959 B c X0 Kc Vc) (s4.sl.v2285 B c X0 Kc Vc) (s4.sl.v2514 B c X0 Kc Vc) :=
  congrArg (fun z => step2 z (s4.sl.v2285 B c X0 Kc Vc) (s4.sl.v2514 B c X0 Kc Vc)) (rdAcc (s3.sl.v1959 B c X0 Kc Vc) _)
theorem a5 : s5.sl.v3081 B c X0 Kc Vc = step2 (s4.sl.v2520 B c X0 Kc Vc) (s5.sl.v2846 B c X0 Kc Vc) (s5.sl.v3075 B c X0 Kc Vc) :=
  congrArg (fun z => step2 z (s5.sl.v2846 B c X0 Kc Vc) (s5.sl.v3075 B c X0 Kc Vc)) (rdAcc (s4.sl.v2520 B c X0 Kc Vc) _)
theorem a6 : s6.sl.v3642 B c X0 Kc Vc = step2 (s5.sl.v3081 B c X0 Kc Vc) (s6.sl.v3407 B c X0 Kc Vc) (s6.sl.v3636 B c X0 Kc Vc) :=
  congrArg (fun z => step2 z (s6.sl.v3407 B c X0 Kc Vc) (s6.sl.v3636 B c X0 Kc Vc)) (rdAcc (s5.sl.v3081 B c X0 Kc Vc) _)
theorem a7 : s7.sl.v4183 B c X0 Kc Vc = step2 (s6.sl.v3642 B c X0 Kc Vc) (s7.sl.v3948 B c X0 Kc Vc) (s7.sl.v4177 B c X0 Kc Vc) :=
  congrArg (fun z => step2 z (s7.sl.v3948 B c X0 Kc Vc) (s7.sl.v4177 B c X0 Kc Vc)) (rdAcc (s6.sl.v3642 B c X0 Kc Vc) _)

/-- The last block's contribution. -/
def pLast : FVec F S512x512 .f32 := part X0 Kc Vc (fin.sl.v4217 B c) (fin.sl.v4219 B c) (o2 c 7) (fun b h => k0_off2_inb c b 7 h) []

theorem aEnd : fin.sl.v4447 B c X0 Kc Vc = step1 (fin.sl.v4215 B c X0 Kc Vc) (pLast B c X0 Kc Vc) := rdAcc _ _
theorem aEnd' : fin.sl.v4215 B c X0 Kc Vc = s7.sl.v4183 B c X0 Kc Vc := rdAcc _ _

end Cert.KernelIdeal.Ring
-- ==== Proof.ValTile.lean ====
/-
  One block's contribution, read at an index: eight contexts, one for each batch and head of the block, times the block's rows of
  the output weights.
-/
module

public import proofs.«01_k».proof.Proof.ValSum
public import proofs.«01_k».proof.Proof.ValRef

@[expose] public section

noncomputable section

namespace Cert.KernelIdeal.Val

open Cert.KernelIdeal Cert.KernelIdeal.Gen Cert.KernelIdeal.Ring
open Idealize.ShloMosaic Idealize.ShloMosaic.TcCoe Idealize.ShloMosaic.Pointwise
open Cert.ReferenceIdeal.Val (mk maskR maskR_at)

/-- The masked literal is read as minus infinity. -/
theorem masked : Named.named (F := Ideal) κ "masked" (φ := .f32) 0xCE6E6B28#32 = ⊥ := rfl

theorem pay4_at (i j : Fin 256) : k0_pay4 (F := Ideal) (ix2 i j) = if mk i j then 0 else ⊥ := by
  have e : k0_pay4 (F := Ideal) (ix2 i j) = Scalar.select
      (IntOp.ori (IntOp.ori (IntOp.cmpi CmpIPredicate.sle (IntOp.absi (IntOp.subi (BitVec.ofNat 32 i.val) (BitVec.ofNat 32 j.val))) 128#32)
          (IntOp.cmpi CmpIPredicate.slt (BitVec.ofNat 32 j.val) 32#32)) (IntOp.cmpi CmpIPredicate.slt (BitVec.ofNat 32 i.val) 32#32))
      0 (Named.named κ "masked" 0xCE6E6B28#32) := by pointwise [k0_pay4]
  show _ = if maskR (ix2 i j) = 1#1 then 0 else ⊥
  rw [e, masked, maskR_at]
  have a : ∀ x y z : BitVec 1, IntOp.ori (IntOp.ori x y) z = IntOp.ori x (IntOp.ori y z) := fun x y z => BitVec.or_assoc x y z
  rw [a]; rfl

theorem ng_at (i j : Fin 256) : ng (F := Ideal) (ix2 i j) = if mk i j then 0 else ⊥ := by
  have e : ng (F := Ideal) = k0_pay4 (F := Ideal) := by
    unfold ng; exact View.readCov_cons_toLoadRect _ _ _ _
  rw [e, pay4_at]

theorem pay1_at (q k v : FVec Ideal S256x64 .bf16) (n : Vec Ideal S256x256 .f32) (i : Fin 256) (d : Fin 64) :
    k0_pay1 q k v n (ix2 i d) = (∑ x : Fin 256, Ideal.exp ((∑ y : Fin 64, q (ix2 i y) * k (ix2 x y)) + n (ix2 i x)) * v (ix2 x d))
      * Ideal.div 1 (∑ x : Fin 256, Ideal.exp ((∑ y : Fin 64, q (ix2 i y) * k (ix2 x y)) + n (ix2 i x))) := by
  pointwise [k0_pay1]

/-- A context of real scores `S`. -/
theorem pay1_real (q k v : FVec Ideal S256x64 .bf16) (i : Fin 256) (d : Fin 64) (S : Fin 256 → ℝ)
    (hS : ∀ x : Fin 256, ∑ y : Fin 64, q (ix2 i y) * k (ix2 x y) = (S x : EReal)) :
    k0_pay1 q k v ng (ix2 i d) = (∑ x : Fin 256, Ideal.exp (if mk i x then (S x : EReal) else ⊥) * v (ix2 x d))
      * Ideal.div 1 (∑ x : Fin 256, Ideal.exp (if mk i x then (S x : EReal) else ⊥)) := by
  have e : ∀ x : Fin 256, (S x : EReal) + (if mk i x then 0 else ⊥) = if mk i x then (S x : EReal) else ⊥ := fun x => by
    split
    · rw [add_zero]
    · rfl
  rw [pay1_at]
  simp only [hS, ng_at, e]

/-- The activations, as an array of extended reals. -/
abbrev XA := FVec Ideal S512x512 .bf16
/-- The keys or the values likewise. -/
abbrev KA := FVec Ideal S128x256x64 .bf16

theorem xr_at (X0 : XA) : xr (F := Ideal) X0 = X0 :=
  (shapeCast_self _ _).trans (View.readAt_full (Val := Elt Ideal) (Memref.whole cc0_stg0_0).view X0 inb_S512x512_S512x512_0_0)

theorem qa_at (X0 : XA) (wq : FVec Ideal S512x256 .bf16) (r : Fin 512) (u : Fin 256) :
    qa (F := Ideal) X0 wq (ix2 r u) = ∑ x : Fin 512, X0 (ix2 r x) * wq (ix2 x u) := by
  have e : qa (F := Ideal) X0 wq (ix2 r u) = ∑ x : Fin 512, xr (F := Ideal) X0 (ix2 r x) * wq (ix2 x u) := by pointwise [qa]
  rw [e, xr_at]

theorem emb_at (n : Fin 128) (h : ∀ a, ![n.val, 0, 0] a + S1x256x64.size a ≤ S128x256x64.size a) (r : Fin 256) (u : Fin 64) :
    (Rect.unit (s := S128x256x64) ![n.val, 0, 0] S1x256x64.size h).emb (ix3 (0 : Fin 1) r u) = (ix3 n r u : S128x256x64.Idx) := by
  funext x
  refine Fin.ext ?_
  match x with
  | 0 => show n.val + 1 * 0 = n.val; omega
  | 1 => show 0 + 1 * r.val = r.val; omega
  | 2 => show 0 + 1 * u.val = u.val; omega

theorem kt_at (Kc : KA) (o : Fin 3 → Nat) (h : ∀ a, o a + S1x256x64.size a ≤ S128x256x64.size a)
    (n : Fin 128) (ho : o = ![n.val, 0, 0]) (r : Fin 256) (u : Fin 64) : kt (F := Ideal) Kc o h (ix2 r u) = Kc (ix3 n r u) := by
  subst ho
  have e : ∀ x : FVec Ideal S1x256x64 .bf16, shapeCast S256x64 x shapeCasts_S1x256x64_S256x64 (ix2 r u) = x (ix3 (0 : Fin 1) r u) := fun x => by pointwise []
  exact (e _).trans ((congrFun (shapeCast_self _ _) _).trans (congrArg Kc (emb_at n h r u)))

theorem vt_at (Vc : KA) (o : Fin 3 → Nat) (h : ∀ a, o a + S1x256x64.size a ≤ S128x256x64.size a)
    (n : Fin 128) (ho : o = ![n.val, 0, 0]) (r : Fin 256) (u : Fin 64) : vt (F := Ideal) Vc o h (ix2 r u) = Vc (ix3 n r u) :=
  kt_at Vc o h n ho r u

/-- A tile of the contexts reads its own payload, -/
theorem hit (a b : Nat) (inb : ∀ x, ![a, b] x + S256x64.size x ≤ S512x256.size x) (w : Vec Ideal S256x64 .f32)
    (L : List (View.Piece (Elt Ideal) S512x256 .f32)) (r : Fin 512) (u : Fin 256) (i : Fin 256) (d : Fin 64)
    (hr : r.val = a + i.val) (hu : u.val = b + d.val) :
    View.canon (⟨Rect.unit (s := S512x256) ![a, b] S256x64.size inb, w⟩ :: L) (ix2 r u) = w (ix2 i d) := by
  rw [show (ix2 r u : S512x256.Idx) = (Rect.unit (s := S512x256) ![a, b] S256x64.size inb).emb (ix2 i d) from ?_]
  · exact View.canon_cons_emb _ _ _ _
  · funext x
    refine Fin.ext ?_
    match x with
    | 0 => show r.val = a + 1 * i.val; omega
    | 1 => show u.val = b + 1 * d.val; omega

/-- and off it the earlier tiles are read. -/
theorem miss (a b : Nat) (inb : ∀ x, ![a, b] x + S256x64.size x ≤ S512x256.size x) (w : Vec Ideal S256x64 .f32)
    (L : List (View.Piece (Elt Ideal) S512x256 .f32)) (r : Fin 512) (u : Fin 256)
    (h : (r.val < a ∨ a + 256 ≤ r.val) ∨ (u.val < b ∨ b + 64 ≤ u.val)) :
    View.canon (⟨Rect.unit (s := S512x256) ![a, b] S256x64.size inb, w⟩ :: L) (ix2 r u) = View.canon L (ix2 r u) := by
  refine View.canon_cons_of_not_mem _ _ ?_
  rcases h with h | h
  · exact Rect.not_mem_set_of_axis _ _ (0 : Fin 2) a 256 rfl rfl rfl h
  · exact Rect.not_mem_set_of_axis _ _ (1 : Fin 2) b 64 rfl rfl rfl h

theorem slice_at (x : FVec Ideal S512x256 .bf16) (a b : Nat) (h : S512x256.Slices ![a, b] S256x64) (r : Fin 256) (u : Fin 64) (hr : a + r.val < 512) (hu : b + u.val < 256) :
    extractStridedSlice S256x64 ![a, b] x h (ix2 r u) = x (ix2 ⟨a + r.val, hr⟩ ⟨b + u.val, hu⟩) := by
  pointwise []

/-- The queries of batch `b` and head `h` of the block. -/
def sl (x : FVec Ideal S512x256 .bf16) (b : Fin 2) (h : Fin 4) : FVec Ideal S256x64 .bf16 :=
  fun j => x (ix2 ⟨256 * b.val + (j 0).val, by have h0 : (j 0).val < 256 := (j 0).isLt; omega⟩ ⟨64 * h.val + (j 1).val, by have h1 : (j 1).val < 64 := (j 1).isLt; omega⟩)

theorem slice_eq (x : FVec Ideal S512x256 .bf16) (a a' : Nat) (hs : S512x256.Slices ![a, a'] S256x64) (b : Fin 2) (h : Fin 4)
    (ha : a = 256 * b.val) (ha' : a' = 64 * h.val) : extractStridedSlice S256x64 ![a, a'] x hs = sl x b h := by
  subst ha ha'
  funext j
  obtain ⟨r, u, rfl⟩ : ∃ (r : Fin 256) (u : Fin 64), j = ix2 r u := ⟨j 0, j 1, by funext k; match k with | 0 => rfl | 1 => rfl⟩
  exact slice_at _ _ _ _ _ _ (by omega) (by omega)

/-- Eight tiles written one after the other, read back: row `256 b + i`, column `64 h + d` is in tile `b`, `h`. -/
theorem canon8 (W : Fin 2 → Fin 4 → Vec Ideal S256x64 .f32) (L : List (View.Piece (Elt Ideal) S512x256 .f32)) (b : Fin 2) (h : Fin 4) (i : Fin 256) (d : Fin 64)
    (r : Fin 512) (u : Fin 256) (hr : r.val = 256 * b.val + i.val) (hu : u.val = 64 * h.val + d.val) :
    View.canon (⟨Rect.unit (s := S512x256) ![256, 192] S256x64.size inb_S512x256_S256x64_256_192, W 1 3⟩
        :: ⟨Rect.unit (s := S512x256) ![256, 128] S256x64.size inb_S512x256_S256x64_256_128, W 1 2⟩
        :: ⟨Rect.unit (s := S512x256) ![256, 64] S256x64.size inb_S512x256_S256x64_256_64, W 1 1⟩
        :: ⟨Rect.unit (s := S512x256) ![256, 0] S256x64.size inb_S512x256_S256x64_256_0, W 1 0⟩
        :: ⟨Rect.unit (s := S512x256) ![0, 192] S256x64.size inb_S512x256_S256x64_0_192, W 0 3⟩
        :: ⟨Rect.unit (s := S512x256) ![0, 128] S256x64.size inb_S512x256_S256x64_0_128, W 0 2⟩
        :: ⟨Rect.unit (s := S512x256) ![0, 64] S256x64.size inb_S512x256_S256x64_0_64, W 0 1⟩
        :: ⟨Rect.unit (s := S512x256) ![0, 0] S256x64.size inb_S512x256_S256x64_0_0, W 0 0⟩ :: L)
      (ix2 r u : S512x256.Idx) = W b h (ix2 i d) := by
  have hi := i.isLt
  have hd := d.isLt
  fin_cases b <;> fin_cases h <;>
  · dsimp only at hr hu
    repeat first
      | (refine hit _ _ _ _ _ _ _ i d ?_ ?_ <;> omega)
      | refine (miss _ _ _ _ _ _ _ (by omega)).trans ?_

/-- The contexts read back. -/
theorem ctx_read (X0 : XA) (Kc Vc : KA) (wq : FVec Ideal S512x256 .bf16) (o : Off) (ho : OffIn o)
    (L : List (View.Piece (Elt Ideal) cc0_scratch4.ty.shape cc0_scratch4.ty.elt)) (b : Fin 2) (h : Fin 4) (i : Fin 256) (d : Fin 64) :
    View.canon (tiles (F := Ideal) X0 Kc Vc wq o ho L) (ix2 ⟨256 * b.val + i.val, by omega⟩ ⟨64 * h.val + d.val, by omega⟩ : S512x256.Idx)
      = k0_pay1 (sl (qa (F := Ideal) X0 wq) b h) (kt (F := Ideal) Kc (o b h) (ho b h)) (vt (F := Ideal) Vc (o b h) (ho b h)) ng (ix2 i d) := by
  unfold tiles
  rw [slice_eq _ 256 192 slices_S512x256_o256_192_S256x64 1 3 rfl rfl, slice_eq _ 256 128 slices_S512x256_o256_128_S256x64 1 2 rfl rfl, slice_eq _ 256 64 slices_S512x256_o256_64_S256x64 1 1 rfl rfl, slice_eq _ 256 0 slices_S512x256_o256_0_S256x64 1 0 rfl rfl, slice_eq _ 0 192 slices_S512x256_o0_192_S256x64 0 3 rfl rfl, slice_eq _ 0 128 slices_S512x256_o0_128_S256x64 0 2 rfl rfl, slice_eq _ 0 64 slices_S512x256_o0_64_S256x64 0 1 rfl rfl, slice_eq _ 0 0 slices_S512x256_o0_0_S256x64 0 0 rfl rfl]
  exact canon8 (fun b h => k0_pay1 (sl (qa (F := Ideal) X0 wq) b h) (kt (F := Ideal) Kc (o b h) (ho b h)) (vt (F := Ideal) Vc (o b h) (ho b h)) ng) L b h i d _ _ rfl rfl

/-- One block's contribution at row `256 b + i`, column `e`, given the scores as reals and the rows of the output weights. -/
theorem part_at (X0 : XA) (Kc Vc : KA) (wq : FVec Ideal S512x256 .bf16) (wo : FVec Ideal S256x512 .bf16) (o : Off) (ho : OffIn o)
    (L : List (View.Piece (Elt Ideal) cc0_scratch4.ty.shape cc0_scratch4.ty.elt)) (b : Fin 2) (i : Fin 256) (e : Fin 512) :
    part (F := Ideal) X0 Kc Vc wq wo o ho L (ix2 ⟨256 * b.val + i.val, by omega⟩ e)
      = ∑ u : Fin 256, k0_pay1 (sl (qa (F := Ideal) X0 wq) b ⟨u.val / 64, by omega⟩) (kt (F := Ideal) Kc (o b ⟨u.val / 64, by omega⟩) (ho b ⟨u.val / 64, by omega⟩))
          (vt (F := Ideal) Vc (o b ⟨u.val / 64, by omega⟩) (ho b ⟨u.val / 64, by omega⟩)) ng (ix2 i ⟨u.val % 64, by omega⟩) * wo (ix2 u e) := by
  have hc : (Memref.whole cc0_scratch4).view.readCov (tiles (F := Ideal) X0 Kc Vc wq o ho L) (Rect.unit (s := S512x256) ![0, 0] S512x256.size inb_S512x256_S512x256_0_0).toLoadRect
      = (View.canon (tiles (F := Ideal) X0 Kc Vc wq o ho L) : FVec Ideal S512x256 .f32) := by
    rw [View.readCov_eq_canon']
    funext j
    refine congrArg (View.canon (tiles (F := Ideal) X0 Kc Vc wq o ho L)) (funext fun x => Fin.ext ?_)
    match x with
    | 0 => show 0 + 1 * (j 0).val = (j 0).val; omega
    | 1 => show 0 + 1 * (j 1).val = (j 1).val; omega
  unfold part
  rw [hc]
  obtain ⟨C, hC⟩ : ∃ C : FVec Ideal S512x256 .f32, View.canon (tiles (F := Ideal) X0 Kc Vc wq o ho L) = C := ⟨_, rfl⟩
  rw [hC]
  have hp : matmul dot_S512x256_S256x512_S512x512_1_0_0_1_n_n none (truncf .bf16 C bitsLt_bf16_f32) wo (constant S512x512 .f32 0x00000000#32) (ix2 ⟨256 * b.val + i.val, by omega⟩ e)
      = ∑ u : Fin 256, C (ix2 ⟨256 * b.val + i.val, by omega⟩ u) * wo (ix2 u e) := by pointwise []
  refine hp.trans (Finset.sum_congr rfl fun u _ => congrArg (· * wo (ix2 u e)) ?_)
  rw [← hC, ← ctx_read X0 Kc Vc wq o ho L b ⟨u.val / 64, by omega⟩ i ⟨u.val % 64, by omega⟩]
  congr 2
  exact Fin.ext (Nat.div_add_mod u.val 64).symm

end Cert.KernelIdeal.Val
-- ==== Proof.ValRing.lean ====
/-
  Where the slots of the ring lead: the offsets of the heads read for each block, and the block each load reads.
-/
module

public import proofs.«01_k».proof.Proof.ValTile

@[expose] public section

noncomputable section

namespace Cert.KernelIdeal.Val

open Cert.KernelIdeal Cert.KernelIdeal.Gen Cert.KernelIdeal.Ring
open Idealize.ShloMosaic Idealize.ShloMosaic.TcCoe

/-- The heads of the device's own block, -/
theorem o1_eq (c : Dev nD) (b : Fin 2) (h : Fin 4) : o1 c b h = ![64 * b.val + 4 * c.val + h.val, 0, 0] := by
  refine congrArg (fun n => ![n, 0, 0]) ?_; revert c b h; decide +kernel

/-- of a block come up the ring, -/
theorem o2_eq (c : Dev nD) (s : Fin 8) (b : Fin 2) (h : Fin 4) : o2 c s b h = ![64 * b.val + 4 * (orig 0 c (s.val + 1)).val + h.val, 0, 0] := by
  refine congrArg (fun n => ![n, 0, 0]) ?_; revert c s b h; decide +kernel

/-- and of one come down it. -/
theorem o3_eq (c : Dev nD) (s : Fin 7) (b : Fin 2) (h : Fin 4) : o3 c s b h = ![64 * b.val + 4 * (orig 2 c (s.val + 1)).val + h.val, 0, 0] := by
  refine congrArg (fun n => ![n, 0, 0]) ?_; revert c s b h; decide +kernel

theorem ld0 (s : ℕ) (h : s < 9) (inb : ∀ a, ![s, 0, 0] a + S1x512x256.size a ≤ S9x512x256.size a) (x : Vec Ideal S512x256 .bf16) :
    shapeCast S512x256 (View.readAt (Elt Ideal) (Memref.whole cc0_scratch0 : Memref sig .tc .vmem S9x512x256 .bf16).view
      (Rect.unit (s := S9x512x256) ![s, 0, 0] S1x512x256.size inb).toLoadRect ((m0 s h).view.rep x)) shapeCasts_S1x512x256_S512x256 = x :=
  Eq.trans rfl (View.read_rep (m0 s h).view x)

theorem ld1 (s : ℕ) (h : s < 9) (inb : ∀ a, ![s, 0, 0] a + S1x256x512.size a ≤ S9x256x512.size a) (x : Vec Ideal S256x512 .bf16) :
    shapeCast S256x512 (View.readAt (Elt Ideal) (Memref.whole cc0_scratch1 : Memref sig .tc .vmem S9x256x512 .bf16).view
      (Rect.unit (s := S9x256x512) ![s, 0, 0] S1x256x512.size inb).toLoadRect ((m1 s h).view.rep x)) shapeCasts_S1x256x512_S256x512 = x :=
  Eq.trans rfl (View.read_rep (m1 s h).view x)

theorem ld2 (s : ℕ) (h : s < 8) (inb : ∀ a, ![s, 0, 0] a + S1x512x256.size a ≤ S8x512x256.size a) (x : Vec Ideal S512x256 .bf16) :
    shapeCast S512x256 (View.readAt (Elt Ideal) (Memref.whole cc0_scratch2 : Memref sig .tc .vmem S8x512x256 .bf16).view
      (Rect.unit (s := S8x512x256) ![s, 0, 0] S1x512x256.size inb).toLoadRect ((m2 s h).view.rep x)) shapeCasts_S1x512x256_S512x256 = x :=
  Eq.trans rfl (View.read_rep (m2 s h).view x)

theorem ld3 (s : ℕ) (h : s < 8) (inb : ∀ a, ![s, 0, 0] a + S1x256x512.size a ≤ S8x256x512.size a) (x : Vec Ideal S256x512 .bf16) :
    shapeCast S256x512 (View.readAt (Elt Ideal) (Memref.whole cc0_scratch3 : Memref sig .tc .vmem S8x256x512 .bf16).view
      (Rect.unit (s := S8x256x512) ![s, 0, 0] S1x256x512.size inb).toLoadRect ((m3 s h).view.rep x)) shapeCasts_S1x256x512_S256x512 = x :=
  Eq.trans rfl (View.read_rep (m3 s h).view x)

variable (B : Blocks Ideal) (c : Dev nD)

theorem q0 : s0.sl.v64 B c = B.wq c := (shapeCast_self _ _).trans ((View.readAt_full (Val := Elt Ideal) mWq.view _ _).trans (View.read_rep mWq.view _))
theorem w0 : s0.sl.v66 B c = B.wo c := (shapeCast_self _ _).trans ((View.readAt_full (Val := Elt Ideal) mWo.view _ _).trans (View.read_rep mWo.view _))
theorem qf1 : s1.sl.v377 B c = B.wq (orig 0 c 1) := ld0 1 (by decide) _ _
theorem wf1 : s1.sl.v379 B c = B.wo (orig 1 c 1) := ld1 1 (by decide) _ _
theorem qb1 : s1.sl.v606 B c = B.wq (orig 2 c 1) := ld2 1 (by decide) _ _
theorem wb1 : s1.sl.v608 B c = B.wo (orig 3 c 1) := ld3 1 (by decide) _ _
theorem qf2 : s2.sl.v938 B c = B.wq (orig 0 c 2) := ld0 2 (by decide) _ _
theorem wf2 : s2.sl.v940 B c = B.wo (orig 1 c 2) := ld1 2 (by decide) _ _
theorem qb2 : s2.sl.v1167 B c = B.wq (orig 2 c 2) := ld2 2 (by decide) _ _
theorem wb2 : s2.sl.v1169 B c = B.wo (orig 3 c 2) := ld3 2 (by decide) _ _
theorem qf3 : s3.sl.v1499 B c = B.wq (orig 0 c 3) := ld0 3 (by decide) _ _
theorem wf3 : s3.sl.v1501 B c = B.wo (orig 1 c 3) := ld1 3 (by decide) _ _
theorem qb3 : s3.sl.v1728 B c = B.wq (orig 2 c 3) := ld2 3 (by decide) _ _
theorem wb3 : s3.sl.v1730 B c = B.wo (orig 3 c 3) := ld3 3 (by decide) _ _
theorem qf4 : s4.sl.v2060 B c = B.wq (orig 0 c 4) := ld0 4 (by decide) _ _
theorem wf4 : s4.sl.v2062 B c = B.wo (orig 1 c 4) := ld1 4 (by decide) _ _
theorem qb4 : s4.sl.v2289 B c = B.wq (orig 2 c 4) := ld2 4 (by decide) _ _
theorem wb4 : s4.sl.v2291 B c = B.wo (orig 3 c 4) := ld3 4 (by decide) _ _
theorem qf5 : s5.sl.v2621 B c = B.wq (orig 0 c 5) := ld0 5 (by decide) _ _
theorem wf5 : s5.sl.v2623 B c = B.wo (orig 1 c 5) := ld1 5 (by decide) _ _
theorem qb5 : s5.sl.v2850 B c = B.wq (orig 2 c 5) := ld2 5 (by decide) _ _
theorem wb5 : s5.sl.v2852 B c = B.wo (orig 3 c 5) := ld3 5 (by decide) _ _
theorem qf6 : s6.sl.v3182 B c = B.wq (orig 0 c 6) := ld0 6 (by decide) _ _
theorem wf6 : s6.sl.v3184 B c = B.wo (orig 1 c 6) := ld1 6 (by decide) _ _
theorem qb6 : s6.sl.v3411 B c = B.wq (orig 2 c 6) := ld2 6 (by decide) _ _
theorem wb6 : s6.sl.v3413 B c = B.wo (orig 3 c 6) := ld3 6 (by decide) _ _
theorem qf7 : s7.sl.v3723 B c = B.wq (orig 0 c 7) := ld0 7 (by decide) _ _
theorem wf7 : s7.sl.v3725 B c = B.wo (orig 1 c 7) := ld1 7 (by decide) _ _
theorem qb7 : s7.sl.v3952 B c = B.wq (orig 2 c 7) := ld2 7 (by decide) _ _
theorem wb7 : s7.sl.v3954 B c = B.wo (orig 3 c 7) := ld3 7 (by decide) _ _
theorem q8 : fin.sl.v4217 B c = B.wq (orig 0 c 8) := ld0 8 (by decide) _ _
theorem w8 : fin.sl.v4219 B c = B.wo (orig 1 c 8) := ld1 8 (by decide) _ _

end Cert.KernelIdeal.Val
-- ==== Proof.ValJoin.lean ====
/-
  The result of each device is its block of the reference's result.
-/
module

public import proofs.«01_k».proof.Proof.ValHost
public import proofs.«01_k».proof.Proof.ValRing

@[expose] public section

noncomputable section

namespace Cert.KernelIdeal.Val

open Cert.KernelIdeal Cert.KernelIdeal.Gen Cert.KernelIdeal.Ring
open Idealize.ShloMosaic Idealize.ShloMosaic.TcCoe Idealize.ShloMosaic.Pointwise
open Cert.ReferenceIdeal (S32x256x512 S512x4096 S4096x512)
open Cert.ReferenceIdeal.Val (mk qR qR_at sR eR wR cR oR oR_at ctx ctx_eq)

/-! ## Blocks of the whole arrays -/

theorem blk0 (X : FVec Ideal S32x256x512 .bf16) (c : Fin 16) (b : Fin 2) (i : Fin 256) (k : Fin 512) :
    (Layout.block ⟨3, ![2, 256, 512]⟩ ⟨3, ![32, 256, 512]⟩ 0 16 c X : S2x256x512.Idx → EReal) (ix3 b i k) = X (ix3 ⟨2 * c.val + b.val, by omega⟩ i k) := by
  refine congrArg X (funext fun a => Fin.ext ?_)
  match a with
  | 0 => show c.val * 2 + b.val = 2 * c.val + b.val; omega
  | 1 => rfl
  | 2 => rfl

theorem blk0' (X : FVec Ideal S32x256x512 .f32) (c : Fin 16) (b : Fin 2) (i : Fin 256) (k : Fin 512) :
    (Layout.block ⟨3, ![2, 256, 512]⟩ ⟨3, ![32, 256, 512]⟩ 0 16 c X : S2x256x512.Idx → EReal) (ix3 b i k) = X (ix3 ⟨2 * c.val + b.val, by omega⟩ i k) :=
  blk0 X c b i k

theorem blk1 (W : FVec Ideal S512x4096 .bf16) (c : Fin 16) (k : Fin 512) (u : Fin 256) :
    (Layout.block ⟨2, ![512, 256]⟩ ⟨2, ![512, 4096]⟩ 1 16 c W : S512x256.Idx → EReal) (ix2 k u) = W (ix2 k ⟨256 * c.val + u.val, by omega⟩) := by
  refine congrArg W (funext fun a => Fin.ext ?_)
  match a with
  | 0 => rfl
  | 1 => show c.val * 256 + u.val = 256 * c.val + u.val; omega

theorem blk4 (W : FVec Ideal S4096x512 .bf16) (c : Fin 16) (u : Fin 256) (e : Fin 512) :
    (Layout.block ⟨2, ![256, 512]⟩ ⟨2, ![4096, 512]⟩ 0 16 c W : S256x512.Idx → EReal) (ix2 u e) = W (ix2 ⟨256 * c.val + u.val, by omega⟩ e) := by
  refine congrArg W (funext fun a => Fin.ext ?_)
  match a with
  | 0 => show c.val * 256 + u.val = 256 * c.val + u.val; omega
  | 1 => rfl

/-! ## The sums -/

/-- The scale before the products of finite numbers, or after them. -/
theorem score (x : Fin 512 → EReal) (w : Fin 512 → Fin 64 → EReal) (κ : Fin 64 → EReal) (hx : ∀ k, ∃ r : ℝ, x k = r)
    (hw : ∀ k y, ∃ r : ℝ, w k y = r) (hκ : ∀ y, ∃ r : ℝ, κ y = r) :
    ∃ s : ℝ, (∑ y, (∑ k, (x k * ((0.125 : ℝ) : EReal)) * w k y) * κ y) = s ∧ (∑ y, (∑ k, x k * w k y) * κ y) * ((0.125 : ℝ) : EReal) = s := by
  choose x' hx using hx
  choose w' hw using hw
  choose κ' hκ using hκ
  simp only [hx, hw, hκ, ← EReal.coe_mul, ← coe_sum]
  refine ⟨_, rfl, congrArg _ ?_⟩
  rw [Finset.sum_mul]
  refine Finset.sum_congr rfl fun y _ => ?_
  rw [mul_right_comm, Finset.sum_mul]
  refine congrArg (· * κ' y) (Finset.sum_congr rfl fun k _ => ?_)
  ring

/-- The sixteen blocks in the order the ring brings them. -/
def order (c : Dev nD) : List (Dev nD) :=
  [c, dn c 1, up c 1, dn c 2, up c 2, dn c 3, up c 3, dn c 4, up c 4, dn c 5, up c 5, dn c 6, up c 6, dn c 7, up c 7, dn c 8]

theorem order_perm : ∀ c : Dev nD, (order c).Perm (List.finRange 16) := by decide +kernel

theorem order_sum (f : Dev nD → EReal) (c : Dev nD) : ((order c).map f).sum = ∑ p : Fin 16, f p := by
  rw [Fin.sum_univ_def]
  exact ((order_perm c).map f).sum_eq

theorem sum_tiles (g : Fin 4096 → EReal) : ∑ t, g t = ∑ p : Fin 16, ∑ u : Fin 256, g ⟨256 * p.val + u.val, by omega⟩ := by
  rw [← Equiv.sum_comp (finProdFinEquiv : Fin 16 × Fin 256 ≃ Fin (16 * 256)) g, Fintype.sum_prod_type]
  refine Finset.sum_congr rfl fun p _ => Finset.sum_congr rfl fun u _ => congrArg g (Fin.ext ?_)
  show u.val + 256 * p.val = 256 * p.val + u.val
  omega

/-! ## One block's contribution -/

section
variable (m : (ℓ : Loc nD τ sig) → Buf (Elt Ideal) ℓ)
variable (X : FVec Ideal S32x256x512 .bf16) (W : FVec Ideal S512x4096 .bf16) (K V : FVec Ideal S32x256x64x64 .bf16) (O : FVec Ideal S4096x512 .bf16)

/-- The devices hold their blocks of the whole arrays, and the scores' factors are finite. -/
structure Holds : Prop where
  x : ∀ c : Dev nD, m (c.tc.loc main_arg0) = Layout.block ⟨3, ![2, 256, 512]⟩ ⟨3, ![32, 256, 512]⟩ 0 16 c X
  w : ∀ c : Dev nD, m (c.tc.loc main_arg1) = Layout.block ⟨2, ![512, 256]⟩ ⟨2, ![512, 4096]⟩ 1 16 c W
  k : ∀ c : Dev nD, m (c.tc.loc main_arg2) = K
  v : ∀ c : Dev nD, m (c.tc.loc main_arg3) = V
  o : ∀ c : Dev nD, m (c.tc.loc main_arg4) = Layout.block ⟨2, ![256, 512]⟩ ⟨2, ![4096, 512]⟩ 0 16 c O
  xr : ∀ j, ∃ r : ℝ, X j = r
  wr : ∀ j, ∃ r : ℝ, W j = r
  kr : ∀ j, ∃ r : ℝ, K j = r

variable {m X W K V O}

/-- Device `p`'s block's contribution to device `c`'s result. -/
def P (X : FVec Ideal S32x256x512 .bf16) (W : FVec Ideal S512x4096 .bf16) (K V : FVec Ideal S32x256x64x64 .bf16) (O : FVec Ideal S4096x512 .bf16)
    (c : Dev nD) (b : Fin 2) (i : Fin 256) (e : Fin 512) (p : Fin 16) : EReal :=
  ∑ u : Fin 256, ctx (qR X W) K V ⟨2 * c.val + b.val, by have : c.val < 16 := c.isLt; omega⟩ i ⟨256 * p.val + u.val, by omega⟩
    * O (ix2 ⟨256 * p.val + u.val, by omega⟩ e)

theorem part_eq (H : Holds m X W K V O) (c : Dev nD) (p : Fin 16) (o : Off) (ho : OffIn o)
    (hp : ∀ b h, o b h = ![64 * b.val + 4 * p.val + h.val, 0, 0])
    (L : List (View.Piece (Elt Ideal) cc0_scratch4.ty.shape cc0_scratch4.ty.elt)) (b : Fin 2) (i : Fin 256) (e : Fin 512)
    (wq : FVec Ideal S512x256 .bf16) (wo : FVec Ideal S256x512 .bf16) (hq : wq = Layout.block ⟨2, ![512, 256]⟩ ⟨2, ![512, 4096]⟩ 1 16 p W)
    (hwo : wo = Layout.block ⟨2, ![256, 512]⟩ ⟨2, ![4096, 512]⟩ 0 16 p O) :
    part (F := Ideal) (stX m c) (stK m c) (stV m c) wq wo o ho L (ix2 ⟨256 * b.val + i.val, by omega⟩ e) = P X W K V O c b i e p := by
  have hc : c.val < 16 := c.isLt
  rw [part_at]
  refine Finset.sum_congr rfl fun u _ => ?_
  rw [show wo (ix2 u e) = O (ix2 ⟨256 * p.val + u.val, by omega⟩ e) by rw [hwo]; exact blk4 O p u e]
  refine congrArg (· * O (ix2 ⟨256 * p.val + u.val, by omega⟩ e)) ?_
  have hkv : ∀ (Z : FVec Ideal S32x256x64x64 .bf16) (h : Fin 4) (inb) (j : Fin 256) (y : Fin 64),
      kt (F := Ideal) (kv c Z) (o b h) inb (ix2 j y) = Z (ix4 ⟨2 * c.val + b.val, by omega⟩ j ⟨4 * p.val + h.val, by omega⟩ y) := fun Z h inb j y => by
    rw [kt_at (kv c Z) (o b h) inb ⟨64 * b.val + (4 * p.val + h.val), by omega⟩ (by rw [hp]; simp only [Nat.add_assoc]) j y]
    exact kv_at c Z b ⟨4 * p.val + h.val, by omega⟩ j y
  have hh : (⟨(256 * p.val + u.val) / 64, by omega⟩ : Fin 64) = ⟨4 * p.val + (⟨u.val / 64, by omega⟩ : Fin 4).val, by show 4 * p.val + u.val / 64 < 64; omega⟩ := Fin.ext (by show (256 * p.val + u.val) / 64 = 4 * p.val + u.val / 64; omega)
  have hd : (⟨(256 * p.val + u.val) % 64, by omega⟩ : Fin 64) = ⟨u.val % 64, by omega⟩ := Fin.ext (by show (256 * p.val + u.val) % 64 = u.val % 64; omega)
  have hS := fun j : Fin 256 => score (fun k => X (ix3 ⟨2 * c.val + b.val, by omega⟩ i k)) (fun k (y : Fin 64) => W (ix2 k ⟨(4 * p.val + u.val / 64) * 64 + y.val, by omega⟩))
    (fun y => K (ix4 ⟨2 * c.val + b.val, by omega⟩ j ⟨4 * p.val + u.val / 64, by omega⟩ y)) (fun _ => H.xr _) (fun _ _ => H.wr _) (fun _ => H.kr _)
  choose S hS1 hS2 using hS
  rw [pay1_real _ _ _ i _ S (fun j => ?_)]
  · refine Eq.trans ?_ (ctx_eq (qR X W) K V _ i ⟨256 * p.val + u.val, by omega⟩ S (fun j => ?_))
    · refine congrArg (· * _) (Finset.sum_congr rfl fun j _ => ?_)
      rw [show stV m c = kv c V from (stV_eq m c).trans (congrArg (kv c) (H.v c))]
      rw [hh, hd]
      exact congrArg (_ * ·) (hkv V _ _ j _)
    · refine Eq.trans ?_ (hS2 j)
      rw [hh]
      refine congrArg (· * _) (Finset.sum_congr rfl fun y _ => ?_)
      rw [qR_at]
  · refine Eq.trans ?_ (hS1 j)
    refine Finset.sum_congr rfl fun y _ => ?_
    rw [show stK m c = kv c K from (stK_eq m c).trans (congrArg (kv c) (H.k c)), hkv]
    refine congrArg (· * _) ((qa_at (stX m c) wq _ _).trans (Finset.sum_congr rfl fun k _ => ?_))
    have ex := stX_at m c b i k _ rfl
    refine congrArg₂ (· * ·) (ex.trans (congrArg (· * _) ?_)) ?_
    · rw [H.x c]; exact blk0 X c b i k
    · rw [hq]
      refine (blk1 W p k _).trans (congrArg (fun z => W (ix2 k z)) (Fin.ext ?_))
      show 256 * p.val + (64 * (u.val / 64) + y.val) = (4 * p.val + u.val / 64) * 64 + y.val
      omega

theorem piece (H : Holds m X W K V O) (c : Dev nD) (p : Fin 16) (o : Off) (ho : OffIn o)
    (hp : ∀ b h, o b h = ![64 * b.val + 4 * p.val + h.val, 0, 0])
    (L : List (View.Piece (Elt Ideal) cc0_scratch4.ty.shape cc0_scratch4.ty.elt)) (b : Fin 2) (i : Fin 256) (e : Fin 512)
    (wq : FVec Ideal S512x256 .bf16) (wo : FVec Ideal S256x512 .bf16) (hq : wq = (Bm m).wq p) (hwo : wo = (Bm m).wo p) :
    part (F := Ideal) (stX m c) (stK m c) (stV m c) wq wo o ho L (ix2 ⟨256 * b.val + i.val, by omega⟩ e) = P X W K V O c b i e p :=
  part_eq H c p o ho hp L b i e wq wo (hq.trans ((stQ_eq m p).trans (H.w p))) (hwo.trans ((stO_eq m p).trans (H.o p)))

theorem step2_at (a f g : FVec Ideal S512x512 .f32) (r : Fin 512) (e : Fin 512) : step2 (F := Ideal) a f g (ix2 r e) = a (ix2 r e) + f (ix2 r e) + g (ix2 r e) := by
  unfold step2
  rw [shapeCast_self]
  pointwise []

theorem step1_at (a f : FVec Ideal S512x512 .f32) (r : Fin 512) (e : Fin 512) : step1 (F := Ideal) a f (ix2 r e) = a (ix2 r e) + f (ix2 r e) := by
  unfold step1
  rw [shapeCast_self]
  pointwise []

theorem out_at (H : Holds m X W K V O) (c : Dev nD) (b : Fin 2) (i : Fin 256) (e : Fin 512) :
    outV m c (ix2 ⟨256 * b.val + i.val, by omega⟩ e) = ∑ p : Fin 16, P X W K V O c b i e p := by
  let j : S512x512.Idx := ix2 ⟨256 * b.val + i.val, by omega⟩ e
  let Q := P X W K V O c b i e
  have f0 : s0.sl.v292 (Bm m) c (stX m c) (stK m c) (stV m c) j = Q c :=
    (congrFun ((shapeCast_self _ _).trans (p0 _ _ _ _ _)) j).trans (piece H c c _ _ (o1_eq c) _ b i e _ _ (q0 _ c) (w0 _ c))
  have f1 : s1.sl.v602 (Bm m) c (stX m c) (stK m c) (stV m c) j = Q (dn c 1) :=
    (congrFun (pf1 _ _ _ _ _) j).trans (piece H c (dn c 1) _ _ (o2_eq c 0) _ b i e _ _ (qf1 _ c) (wf1 _ c))
  have g1 : s1.sl.v831 (Bm m) c (stX m c) (stK m c) (stV m c) j = Q (up c 1) :=
    (congrFun (pb1 _ _ _ _ _) j).trans (piece H c (up c 1) _ _ (o3_eq c 0) _ b i e _ _ (qb1 _ c) (wb1 _ c))
  have f2 : s2.sl.v1163 (Bm m) c (stX m c) (stK m c) (stV m c) j = Q (dn c 2) :=
    (congrFun (pf2 _ _ _ _ _) j).trans (piece H c (dn c 2) _ _ (o2_eq c 1) _ b i e _ _ (qf2 _ c) (wf2 _ c))
  have g2 : s2.sl.v1392 (Bm m) c (stX m c) (stK m c) (stV m c) j = Q (up c 2) :=
    (congrFun (pb2 _ _ _ _ _) j).trans (piece H c (up c 2) _ _ (o3_eq c 1) _ b i e _ _ (qb2 _ c) (wb2 _ c))
  have f3 : s3.sl.v1724 (Bm m) c (stX m c) (stK m c) (stV m c) j = Q (dn c 3) :=
    (congrFun (pf3 _ _ _ _ _) j).trans (piece H c (dn c 3) _ _ (o2_eq c 2) _ b i e _ _ (qf3 _ c) (wf3 _ c))
  have g3 : s3.sl.v1953 (Bm m) c (stX m c) (stK m c) (stV m c) j = Q (up c 3) :=
    (congrFun (pb3 _ _ _ _ _) j).trans (piece H c (up c 3) _ _ (o3_eq c 2) _ b i e _ _ (qb3 _ c) (wb3 _ c))
  have f4 : s4.sl.v2285 (Bm m) c (stX m c) (stK m c) (stV m c) j = Q (dn c 4) :=
    (congrFun (pf4 _ _ _ _ _) j).trans (piece H c (dn c 4) _ _ (o2_eq c 3) _ b i e _ _ (qf4 _ c) (wf4 _ c))
  have g4 : s4.sl.v2514 (Bm m) c (stX m c) (stK m c) (stV m c) j = Q (up c 4) :=
    (congrFun (pb4 _ _ _ _ _) j).trans (piece H c (up c 4) _ _ (o3_eq c 3) _ b i e _ _ (qb4 _ c) (wb4 _ c))
  have f5 : s5.sl.v2846 (Bm m) c (stX m c) (stK m c) (stV m c) j = Q (dn c 5) :=
    (congrFun (pf5 _ _ _ _ _) j).trans (piece H c (dn c 5) _ _ (o2_eq c 4) _ b i e _ _ (qf5 _ c) (wf5 _ c))
  have g5 : s5.sl.v3075 (Bm m) c (stX m c) (stK m c) (stV m c) j = Q (up c 5) :=
    (congrFun (pb5 _ _ _ _ _) j).trans (piece H c (up c 5) _ _ (o3_eq c 4) _ b i e _ _ (qb5 _ c) (wb5 _ c))
  have f6 : s6.sl.v3407 (Bm m) c (stX m c) (stK m c) (stV m c) j = Q (dn c 6) :=
    (congrFun (pf6 _ _ _ _ _) j).trans (piece H c (dn c 6) _ _ (o2_eq c 5) _ b i e _ _ (qf6 _ c) (wf6 _ c))
  have g6 : s6.sl.v3636 (Bm m) c (stX m c) (stK m c) (stV m c) j = Q (up c 6) :=
    (congrFun (pb6 _ _ _ _ _) j).trans (piece H c (up c 6) _ _ (o3_eq c 5) _ b i e _ _ (qb6 _ c) (wb6 _ c))
  have f7 : s7.sl.v3948 (Bm m) c (stX m c) (stK m c) (stV m c) j = Q (dn c 7) :=
    (congrFun (pf7 _ _ _ _ _) j).trans (piece H c (dn c 7) _ _ (o2_eq c 6) _ b i e _ _ (qf7 _ c) (wf7 _ c))
  have g7 : s7.sl.v4177 (Bm m) c (stX m c) (stK m c) (stV m c) j = Q (up c 7) :=
    (congrFun (pb7 _ _ _ _ _) j).trans (piece H c (up c 7) _ _ (o3_eq c 6) _ b i e _ _ (qb7 _ c) (wb7 _ c))
  have f8 : pLast (Bm m) c (stX m c) (stK m c) (stV m c) j = Q (dn c 8) := piece H c (dn c 8) _ _ (o2_eq c 7) _ b i e _ _ (q8 _ c) (w8 _ c)
  have c1 : s1.sl.v837 (Bm m) c (stX m c) (stK m c) (stV m c) j = s0.sl.v292 (Bm m) c (stX m c) (stK m c) (stV m c) j + Q (dn c 1) + Q (up c 1) := by
    rw [a1, ← f1, ← g1]; exact step2_at _ _ _ _ _
  have c2 : s2.sl.v1398 (Bm m) c (stX m c) (stK m c) (stV m c) j = s1.sl.v837 (Bm m) c (stX m c) (stK m c) (stV m c) j + Q (dn c 2) + Q (up c 2) := by
    rw [a2, ← f2, ← g2]; exact step2_at _ _ _ _ _
  have c3 : s3.sl.v1959 (Bm m) c (stX m c) (stK m c) (stV m c) j = s2.sl.v1398 (Bm m) c (stX m c) (stK m c) (stV m c) j + Q (dn c 3) + Q (up c 3) := by
    rw [a3, ← f3, ← g3]; exact step2_at _ _ _ _ _
  have c4 : s4.sl.v2520 (Bm m) c (stX m c) (stK m c) (stV m c) j = s3.sl.v1959 (Bm m) c (stX m c) (stK m c) (stV m c) j + Q (dn c 4) + Q (up c 4) := by
    rw [a4, ← f4, ← g4]; exact step2_at _ _ _ _ _
  have c5 : s5.sl.v3081 (Bm m) c (stX m c) (stK m c) (stV m c) j = s4.sl.v2520 (Bm m) c (stX m c) (stK m c) (stV m c) j + Q (dn c 5) + Q (up c 5) := by
    rw [a5, ← f5, ← g5]; exact step2_at _ _ _ _ _
  have c6 : s6.sl.v3642 (Bm m) c (stX m c) (stK m c) (stV m c) j = s5.sl.v3081 (Bm m) c (stX m c) (stK m c) (stV m c) j + Q (dn c 6) + Q (up c 6) := by
    rw [a6, ← f6, ← g6]; exact step2_at _ _ _ _ _
  have c7 : s7.sl.v4183 (Bm m) c (stX m c) (stK m c) (stV m c) j = s6.sl.v3642 (Bm m) c (stX m c) (stK m c) (stV m c) j + Q (dn c 7) + Q (up c 7) := by
    rw [a7, ← f7, ← g7]; exact step2_at _ _ _ _ _
  have hE : outV m c j = s7.sl.v4183 (Bm m) c (stX m c) (stK m c) (stV m c) j + Q (dn c 8) := by
    unfold outV
    rw [aEnd, aEnd', ← f8]; exact step1_at _ _ _ _
  refine hE.trans ?_
  rw [c7, c6, c5, c4, c3, c2, c1, f0]
  refine Eq.trans ?_ (order_sum Q c)
  simp only [order, List.map_cons, List.map_nil, List.sum_cons, List.sum_nil, add_zero, add_assoc]

/-- THE RESULT: device `c`'s result array is its block of the reference's. -/
theorem res_block (H : Holds m X W K V O) (c : Dev nD) :
    (dats m 0 c).arrAt (5 : Fin 6) cfg0.N
      = Layout.block ⟨3, ![2, 256, 512]⟩ ⟨3, ![32, 256, 512]⟩ 0 16 c (oR (cR V (wR (eR (sR (qR X W) K)))) O) := by
  rw [res_out]
  funext y
  obtain ⟨b, i, e, rfl⟩ : ∃ (b : Fin 2) (i : Fin 256) (e : Fin 512), y = ix3 b i e := ⟨y 0, y 1, y 2, by funext a; match a with | 0 => rfl | 1 => rfl | 2 => rfl⟩
  have h3 : ∀ v : FVec Ideal S512x512 .f32, k0_pay3 v (ix3 b i e) = v (ix2 ⟨256 * b.val + i.val, by omega⟩ e) := fun v => by
    pointwise [k0_pay3]
    exact congrArg (fun z => v (ix2 z e)) (Fin.ext (Nat.add_right_cancel_iff.2 (Nat.mul_comm _ _)))
  refine (h3 (outV m c)).trans ((out_at H c b i e).trans ?_)
  refine Eq.trans ?_ (blk0' _ c b i e).symm
  rw [oR_at, sum_tiles]
  rfl

end

end Cert.KernelIdeal.Val
-- ==== Proof.ValPre.lean ====
/-
  What the precondition says of the arrays' elements: they are real numbers.
-/
module

public import proofs.«01_k».proof.Pre_finite_KernelIdeal
public import proofs.«01_k».proof.Proof.ValMath
public import Idealize.ShloMosaic.Lib.ReduceAll

@[expose] public section

noncomputable section

namespace Cert.KernelIdeal.Val

open Idealize.ShloMosaic Idealize.ShloMosaic.Pointwise
open Cert.Pre_finite_KernelIdeal Cert.Pre_finite_KernelIdeal.Facts

theorem inf_lit : Ideal.ofBits .bf16 0x7F80#16 = (⊤ : EReal) := by
  simp [Ideal.ofBits, Ideal.ieee]

/-- A number whose absolute value is below infinity is real. -/
theorem real_of_abs (x : EReal) (h : max x (-x) < ⊤) : ∃ r : ℝ, x = r := by
  induction x with
  | bot => simp at h
  | top => simp at h
  | coe r => exact ⟨r, rfl⟩

theorem and_one (a b : BitVec 1) (h : a &&& b = 1#1) : a = 1#1 ∧ b = 1#1 := by revert a b; decide

theorem real_at {s : Shape} (x : FVec Ideal s .bf16) (hb : S_.BroadcastsInDim s (![] : Fin 0 → Fin s.rank)) (i : s.Idx)
    (h : cmpf .olt (Host.absf x) (broadcastInDim s ![] hb (constant S_ .bf16 0x7F80#16)) i = 1#1) : ∃ r : ℝ, x i = r := by
  have e : cmpf .olt (Host.absf x) (broadcastInDim s ![] hb (constant S_ .bf16 0x7F80#16)) i = BitVec.ofBool (decide (max (x i) (-(x i)) < Ideal.ofBits .bf16 0x7F80#16)) := rfl
  rw [e, inf_lit] at h
  refine real_of_abs _ ?_
  by_contra hn
  simp [hn] at h

variable [Facts]

instance : Subsingleton S_.Idx := ⟨fun a b => funext fun k => k.elim0⟩

theorem finite (a0 : FVec Ideal S2x256x512 .bf16) (a1 : FVec Ideal S512x256 .bf16) (a2 a3 : FVec Ideal S32x256x64x64 .bf16) (a4 : FVec Ideal S256x512 .bf16)
    (h : fn (F := Ideal) a0 a1 a2 a3 a4 = fun _ => 1#1) : (∀ i, ∃ r : ℝ, a0 i = r) ∧ (∀ i, ∃ r : ℝ, a1 i = r) ∧ (∀ i, ∃ r : ℝ, a2 i = r) := by
  have h := congrFun h (fun k => k.elim0)
  obtain ⟨h, h2⟩ := and_one _ _ h
  obtain ⟨h0, h1⟩ := and_one _ _ h
  exact ⟨fun i => real_at a0 _ i (Host.reduce_andi_all _ _ _ _ _ h0 i), fun i => real_at a1 _ i (Host.reduce_andi_all _ _ _ _ _ h1 i),
    fun i => real_at a2 _ i (Host.reduce_andi_all _ _ _ _ _ h2 i)⟩

end Cert.KernelIdeal.Val
-- ==== Proof.Value.lean ====
/-
  The value: every device's result is its block of the reference's result.
-/
module

public import proofs.«01_k».proof.Defs
public import proofs.«01_k».proof.Proof.ValJoin
public import proofs.«01_k».proof.Proof.ValPre
public import proofs.«01_k».proof.Proof.Frames

@[expose] public section

noncomputable section

namespace Cert.Proof

open Idealize.ShloMosaic Idealize.SL.Sem Idealize.ShloMosaic.Pointwise
open Cert.KernelIdeal.Val
open Cert.ReferenceIdeal (S32x256x512 S512x4096)

theorem facts_pre : Cert.Pre_finite_KernelIdeal.Facts := by constructor <;> decide
theorem facts_pre_ref : Cert.Pre_finite_ReferenceIdeal.Facts := by constructor <;> decide

/-- An array whose sixteen blocks are real is real: cut along its first axis, -/
theorem real0 (X : FVec Ideal S32x256x512 .bf16)
    (h : ∀ (c : Fin 16) i, ∃ r : ℝ, (Layout.block ⟨3, ![2, 256, 512]⟩ ⟨3, ![32, 256, 512]⟩ 0 16 c X : Cert.KernelIdeal.S2x256x512.Idx → EReal) i = r) (j : S32x256x512.Idx) :
    ∃ r : ℝ, X j = r := by
  obtain ⟨b, i, k, rfl⟩ : ∃ (b : Fin 32) (i : Fin 256) (k : Fin 512), j = ix3 b i k := ⟨j 0, j 1, j 2, by funext a; match a with | 0 => rfl | 1 => rfl | 2 => rfl⟩
  obtain ⟨r, hr⟩ := h ⟨b.val / 2, by omega⟩ (ix3 ⟨b.val % 2, by omega⟩ i k)
  refine ⟨r, Eq.trans ?_ ((blk0 X _ _ i k).symm.trans hr)⟩
  exact congrArg (fun z => X (ix3 z i k)) (Fin.ext (by show b.val = 2 * (b.val / 2) + b.val % 2; omega))

/-- or along its second. -/
theorem real1 (W : FVec Ideal S512x4096 .bf16)
    (h : ∀ (c : Fin 16) i, ∃ r : ℝ, (Layout.block ⟨2, ![512, 256]⟩ ⟨2, ![512, 4096]⟩ 1 16 c W : Cert.KernelIdeal.S512x256.Idx → EReal) i = r) (j : S512x4096.Idx) :
    ∃ r : ℝ, W j = r := by
  obtain ⟨k, t, rfl⟩ : ∃ (k : Fin 512) (t : Fin 4096), j = ix2 k t := ⟨j 0, j 1, by funext a; match a with | 0 => rfl | 1 => rfl⟩
  obtain ⟨r, hr⟩ := h ⟨t.val / 256, by omega⟩ (ix2 k ⟨t.val % 256, by omega⟩)
  refine ⟨r, Eq.trans ?_ ((blk1 W _ k _).symm.trans hr)⟩
  exact congrArg (fun z => W (ix2 k z)) (Fin.ext (by show t.val = 256 * (t.val / 256) + t.val % 256; omega))

/-- The kernel's result is the reference's, block by block, for finite activations, query weights and keys. -/
theorem value : Cert.algebraic_KernelIdeal_ReferenceIdeal_pre_finite_KernelIdeal (hKernelIdeal := Cert.KernelIdeal.Gen.facts)
    (hReferenceIdeal := Cert.ReferenceIdeal.Gen.facts) (hPre_finite_KernelIdeal := facts_pre) := by
  intro m g m' g' hpre hm
  have hf := fun c => @finite facts_pre _ _ _ _ _ (hpre c)
  have H : Holds m _ _ _ _ _ :=
    ⟨fun c => (hm c).1, fun c => (hm c).2.1, fun c => (hm c).2.2.1, fun c => (hm c).2.2.2.1, fun c => (hm c).2.2.2.2,
      real0 _ fun c i => (hm c).1 ▸ (hf c).1 i, real1 _ fun c i => (hm c).2.1 ▸ (hf c).2.1 i,
      fun i => (hm (0 : Fin 16)).2.2.1 ▸ (hf (0 : Fin 16)).2.2 i⟩
  refine ⟨Cert.ReferenceIdeal.Value.res_main_v47 m' 0, ?_, ?_⟩
  · refine (θ_run Cert.KernelIdeal.defs _ _).mono (fun _ h c => ?_) (Cert.KernelIdeal.Ring.run_main (F := Ideal) m g)
    obtain ⟨h0, h1, h2, h3, h4, h5⟩ := (h.1 c).1
    exact ⟨h5.trans ((res_block H c).trans (congrArg (fun v => Layout.block ⟨3, ![2, 256, 512]⟩ ⟨3, ![32, 256, 512]⟩ 0 16 c v) (Cert.ReferenceIdeal.Val.res_eq m' 0).symm)), h0, h1, h2, h3, h4⟩
  · exact (θ_run Cert.ReferenceIdeal.defs _ _).mono (fun _ h => h 0) (Cert.ReferenceIdeal.Value.run (F := Ideal) m' g')

end Cert.Proof

end
-- ==== Proof.lean ====
/-
  The certificate's claims together: each program's frame, the idealization's rewrite, each from its module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, facts_pre, facts_pre_ref,
  frame_P, frame_PI, fun m ρ _ => frame_PI m ρ trivial, frame_RI, fun m ρ _ => frame_RI m ρ trivial, preserved, value⟩

end Cert.Proof

end
